-- ==== Defs.lean ====
def Pre_Kernel (m : (ℓ : Loc Cert.Kernel.nD Cert.Kernel.τ Cert.Kernel.sig) → Buf (Elt Bits) ℓ) : Prop :=
  True

def Pre_Slice (m : (ℓ : Loc Cert.Slice.nD Cert.Slice.τ Cert.Slice.sig) → Buf (Elt Bits) ℓ) : Prop :=
  True

def Pre_SliceIdeal (m : (ℓ : Loc Cert.SliceIdeal.nD Cert.SliceIdeal.τ Cert.SliceIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Slice [hSlice : Cert.Slice.Facts] : Prop :=
  ∀ (m : (ℓ : Loc Cert.Slice.nD Cert.Slice.τ Cert.Slice.sig) → Buf (Elt Bits) ℓ) (g : Dev Cert.Slice.nD → PrngReg), Pre_Slice m →
    θ_run (Cert.Slice.defs (F := Bits)) (onTc (τ := Cert.Slice.τ) (Cert.Slice.main (F := Bits))) ⟨m, fun _ => 0, g⟩ (fun r => (∀ c : Dev Cert.Slice.nD,
      r.2.mem ((c.tc : Thread Cert.Slice.nD Cert.Slice.τ).loc Cert.Slice.main_arg0) = m ((c.tc : Thread Cert.Slice.nD Cert.Slice.τ).loc Cert.Slice.main_arg0)
      ∧ r.2.mem ((c.tc : Thread Cert.Slice.nD Cert.Slice.τ).loc Cert.Slice.main_arg1) = m ((c.tc : Thread Cert.Slice.nD Cert.Slice.τ).loc Cert.Slice.main_arg1)
      ∧ r.2.mem ((c.tc : Thread Cert.Slice.nD Cert.Slice.τ).loc Cert.Slice.main_arg2) = m ((c.tc : Thread Cert.Slice.nD Cert.Slice.τ).loc Cert.Slice.main_arg2)
      ∧ r.2.mem ((c.tc : Thread Cert.Slice.nD Cert.Slice.τ).loc Cert.Slice.main_arg3) = m ((c.tc : Thread Cert.Slice.nD Cert.Slice.τ).loc Cert.Slice.main_arg3))
      ∧ r.2.sem = fun _ => 0)

def quiescent_SliceIdeal [hSliceIdeal : Cert.SliceIdeal.Facts] : Prop :=
  ∀ (m : (ℓ : Loc Cert.SliceIdeal.nD Cert.SliceIdeal.τ Cert.SliceIdeal.sig) → Buf (Elt Ideal) ℓ) (g : Dev Cert.SliceIdeal.nD → PrngReg), Pre_SliceIdeal m →
    θ_run (Cert.SliceIdeal.defs (F := Ideal)) (onTc (τ := Cert.SliceIdeal.τ) (Cert.SliceIdeal.main (F := Ideal))) ⟨m, fun _ => 0, g⟩ (fun r => (∀ c : Dev Cert.SliceIdeal.nD,
      r.2.mem ((c.tc : Thread Cert.SliceIdeal.nD Cert.SliceIdeal.τ).loc Cert.SliceIdeal.main_arg0) = m ((c.tc : Thread Cert.SliceIdeal.nD Cert.SliceIdeal.τ).loc Cert.SliceIdeal.main_arg0)
      ∧ r.2.mem ((c.tc : Thread Cert.SliceIdeal.nD Cert.SliceIdeal.τ).loc Cert.SliceIdeal.main_arg1) = m ((c.tc : Thread Cert.SliceIdeal.nD Cert.SliceIdeal.τ).loc Cert.SliceIdeal.main_arg1)
      ∧ r.2.mem ((c.tc : Thread Cert.SliceIdeal.nD Cert.SliceIdeal.τ).loc Cert.SliceIdeal.main_arg2) = m ((c.tc : Thread Cert.SliceIdeal.nD Cert.SliceIdeal.τ).loc Cert.SliceIdeal.main_arg2)
      ∧ r.2.mem ((c.tc : Thread Cert.SliceIdeal.nD Cert.SliceIdeal.τ).loc Cert.SliceIdeal.main_arg3) = m ((c.tc : Thread Cert.SliceIdeal.nD Cert.SliceIdeal.τ).loc Cert.SliceIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Slice_SliceIdeal : Prop :=
  True

def algebraic_SliceIdeal_ReferenceIdeal [hSliceIdeal : Cert.SliceIdeal.Facts] [hReferenceIdeal : Cert.ReferenceIdeal.Facts] : Prop :=
  ∀ (m : (ℓ : Loc Cert.SliceIdeal.nD Cert.SliceIdeal.τ Cert.SliceIdeal.sig) → Buf (Elt Ideal) ℓ) (g : Dev Cert.SliceIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SliceIdeal m →
    (∀ c : Dev Cert.SliceIdeal.nD,
      m' ((c.tc : Thread Cert.ReferenceIdeal.nD Cert.ReferenceIdeal.τ).loc Cert.ReferenceIdeal.main_arg0) = m ((c.tc : Thread Cert.SliceIdeal.nD Cert.SliceIdeal.τ).loc Cert.SliceIdeal.main_arg0)
      ∧ m' ((c.tc : Thread Cert.ReferenceIdeal.nD Cert.ReferenceIdeal.τ).loc Cert.ReferenceIdeal.main_arg1) = m ((c.tc : Thread Cert.SliceIdeal.nD Cert.SliceIdeal.τ).loc Cert.SliceIdeal.main_arg1)
      ∧ m' ((c.tc : Thread Cert.ReferenceIdeal.nD Cert.ReferenceIdeal.τ).loc Cert.ReferenceIdeal.main_arg2) = m ((c.tc : Thread Cert.SliceIdeal.nD Cert.SliceIdeal.τ).loc Cert.SliceIdeal.main_arg2)
      ∧ m' ((c.tc : Thread Cert.ReferenceIdeal.nD Cert.ReferenceIdeal.τ).loc Cert.ReferenceIdeal.main_arg3) = m ((c.tc : Thread Cert.SliceIdeal.nD Cert.SliceIdeal.τ).loc Cert.SliceIdeal.main_arg3)) →
    ∃ (v0 : (c : Dev Cert.SliceIdeal.nD) → Buf (Elt Ideal) ((c.tc : Thread Cert.SliceIdeal.nD Cert.SliceIdeal.τ).loc Cert.SliceIdeal.main_v0)),
      θ_run (Cert.SliceIdeal.defs (F := Ideal)) (onTc (τ := Cert.SliceIdeal.τ) (Cert.SliceIdeal.main (F := Ideal))) ⟨m, fun _ => 0, g⟩ (fun r => ∀ c : Dev Cert.SliceIdeal.nD,
          r.2.mem ((c.tc : Thread Cert.SliceIdeal.nD Cert.SliceIdeal.τ).loc Cert.SliceIdeal.main_v0) = v0 c
          ∧ r.2.mem ((c.tc : Thread Cert.SliceIdeal.nD Cert.SliceIdeal.τ).loc Cert.SliceIdeal.main_arg0) = m ((c.tc : Thread Cert.SliceIdeal.nD Cert.SliceIdeal.τ).loc Cert.SliceIdeal.main_arg0)
          ∧ r.2.mem ((c.tc : Thread Cert.SliceIdeal.nD Cert.SliceIdeal.τ).loc Cert.SliceIdeal.main_arg1) = m ((c.tc : Thread Cert.SliceIdeal.nD Cert.SliceIdeal.τ).loc Cert.SliceIdeal.main_arg1)
          ∧ r.2.mem ((c.tc : Thread Cert.SliceIdeal.nD Cert.SliceIdeal.τ).loc Cert.SliceIdeal.main_arg2) = m ((c.tc : Thread Cert.SliceIdeal.nD Cert.SliceIdeal.τ).loc Cert.SliceIdeal.main_arg2)
          ∧ r.2.mem ((c.tc : Thread Cert.SliceIdeal.nD Cert.SliceIdeal.τ).loc Cert.SliceIdeal.main_arg3) = m ((c.tc : Thread Cert.SliceIdeal.nD Cert.SliceIdeal.τ).loc Cert.SliceIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hSlice : Cert.Slice.Facts) (hSliceIdeal : Cert.SliceIdeal.Facts) (hReferenceIdeal : Cert.ReferenceIdeal.Facts),
    quiescent_Kernel (hKernel := hKernel)
    ∧ quiescent_Slice (hSlice := hSlice)
    ∧ quiescent_SliceIdeal (hSliceIdeal := hSliceIdeal)
    ∧ quiescent_ReferenceIdeal (hReferenceIdeal := hReferenceIdeal)
    ∧ preserves_Slice_SliceIdeal
    ∧ algebraic_SliceIdeal_ReferenceIdeal (hSliceIdeal := hSliceIdeal) (hReferenceIdeal := hReferenceIdeal)
-- ==== Kernel.lean ====
abbrev S5x256x1536 : Shape := ⟨3, ![5, 256, 1536]⟩
abbrev S6144x1152 : Shape := ⟨2, ![6144, 1152]⟩
abbrev S6144x48 : Shape := ⟨2, ![6144, 48]⟩
abbrev S1280x1536 : Shape := ⟨2, ![1280, 1536]⟩
abbrev S1280x6144 : Shape := ⟨2, ![1280, 6144]⟩
abbrev S1280x1152 : Shape := ⟨2, ![1280, 1152]⟩
abbrev S1280x48 : Shape := ⟨2, ![1280, 48]⟩
abbrev S512x1152 : Shape := ⟨2, ![512, 1152]⟩
abbrev S512x48 : Shape := ⟨2, ![512, 48]⟩
abbrev S1280x512 : Shape := ⟨2, ![1280, 512]⟩
abbrev S512x1536 : Shape := ⟨2, ![512, 1536]⟩
abbrev S8x128 : Shape := ⟨2, ![8, 128]⟩
abbrev S32x128 : Shape := ⟨2, ![32, 128]⟩
abbrev S16x128 : Shape := ⟨2, ![16, 128]⟩
abbrev S8x128x1 : Shape := ⟨3, ![8, 128, 1]⟩
abbrev S32x48 : Shape := ⟨2, ![32, 48]⟩
abbrev S32x1536 : Shape := ⟨2, ![32, 1536]⟩
abbrev S32x80 : Shape := ⟨2, ![32, 80]⟩
abbrev S5x256x6144 : Shape := ⟨3, ![5, 256, 6144]⟩
abbrev S5x256x1152 : Shape := ⟨3, ![5, 256, 1152]⟩
abbrev S5x256x48 : Shape := ⟨3, ![5, 256, 48]⟩

abbrev nBuf : Space → Nat
  | .hbm => 10
  | .vmem => 11
  | .smem => 0
  | _ => 0

abbrev bufTy : (tb : Table) → Fin (tcTables nBuf tb) → BufTy
  | .hbm, ⟨0, _⟩ => ⟨S5x256x1536, .bf16⟩
  | .hbm, ⟨1, _⟩ => ⟨S6144x1152, .i8⟩
  | .hbm, ⟨2, _⟩ => ⟨S6144x48, .i8⟩
  | .hbm, ⟨3, _⟩ => ⟨S1280x1536, .bf16⟩
  | .hbm, ⟨4, _⟩ => ⟨S1280x6144, .bf16⟩
  | .hbm, ⟨5, _⟩ => ⟨S1280x1152, .i8⟩
  | .hbm, ⟨6, _⟩ => ⟨S1280x48, .i8⟩
  | .hbm, ⟨7, _⟩ => ⟨S5x256x6144, .bf16⟩
  | .hbm, ⟨8, _⟩ => ⟨S5x256x1152, .i8⟩
  | .hbm, ⟨9, _⟩ => ⟨S5x256x48, .i8⟩
  | .local _ .vmem, ⟨0, _⟩ => ⟨S1280x1536, .bf16⟩
  | .local _ .vmem, ⟨1, _⟩ => ⟨S512x1152, .i8⟩
  | .local _ .vmem, ⟨2, _⟩ => ⟨S512x1152, .i8⟩
  | .local _ .vmem, ⟨3, _⟩ => ⟨S512x48, .i8⟩
  | .local _ .vmem, ⟨4, _⟩ => ⟨S512x48, .i8⟩
  | .local _ .vmem, ⟨5, _⟩ => ⟨S1280x512, .bf16⟩
  | .local _ .vmem, ⟨6, _⟩ => ⟨S1280x512, .bf16⟩
  | .local _ .vmem, ⟨7, _⟩ => ⟨S1280x1152, .i8⟩
  | .local _ .vmem, ⟨8, _⟩ => ⟨S1280x48, .i8⟩
  | .local _ .vmem, ⟨9, _⟩ => ⟨S1280x1536, .bf16⟩
  | .local _ .vmem, ⟨10, _⟩ => ⟨S512x1536, .bf16⟩
  | _, _ => ⟨S5x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [BitOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8428 : BitVec 32 := 0#32
  let c40_i32 : BitVec 32 := 40#32
  let v22824 : BitVec 32 := Scalar.addi c0_i32_8428 c40_i32
  let c1_i32_8429 : BitVec 32 := 1#32
  ⟨c0_i32_8428, v22824, c1_i32_8429⟩
def k0_mult1 (k0_t1 : Fin k0_t1_loop.trips) : BitVec 32 :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  v22825
def k0_off1 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22828 : Index := Scalar.indexCast v22826
  let c0_8431 : Index := 0#32
  ![v22828.toNat, 0]
def k0_off2 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22831 : Index := Scalar.indexCast v22826
  let c128_8432 : Index := 128#32
  ![v22831.toNat, 128]
def k0_off3 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22834 : Index := Scalar.indexCast v22826
  let c256_8433 : Index := 256#32
  ![v22834.toNat, 256]
def k0_off4 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22837 : Index := Scalar.indexCast v22826
  let c384_8434 : Index := 384#32
  ![v22837.toNat, 384]
def k0_off5 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22840 : Index := Scalar.indexCast v22826
  let c512_8435 : Index := 512#32
  ![v22840.toNat, 512]
def k0_off6 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22843 : Index := Scalar.indexCast v22826
  let c640_8436 : Index := 640#32
  ![v22843.toNat, 640]
def k0_off7 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22846 : Index := Scalar.indexCast v22826
  let c768_8437 : Index := 768#32
  ![v22846.toNat, 768]
def k0_off8 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22849 : Index := Scalar.indexCast v22826
  let c896_8438 : Index := 896#32
  ![v22849.toNat, 896]
def k0_off9 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22852 : Index := Scalar.indexCast v22826
  let c1024_8439 : Index := 1024#32
  ![v22852.toNat, 1024]
def k0_off10 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22855 : Index := Scalar.indexCast v22826
  let c1152_8440 : Index := 1152#32
  ![v22855.toNat, 1152]
def k0_off11 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22858 : Index := Scalar.indexCast v22826
  let c1280_8441 : Index := 1280#32
  ![v22858.toNat, 1280]
def k0_off12 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v22861 : Index := Scalar.indexCast v22826
  let c1408_8442 : Index := 1408#32
  ![v22861.toNat, 1408]
def k0_off13 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v24540 : Index := Scalar.indexCast v22826
  let c0_8926 : Index := 0#32
  ![v24540.toNat, 0]
def k0_off14 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26387 : Index := Scalar.indexCast v22826
  let c0_9491 : Index := 0#32
  ![v26387.toNat, 0]
def k0_off15 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26390 : Index := Scalar.indexCast v22826
  let c128_9492 : Index := 128#32
  ![v26390.toNat, 128]
def k0_off16 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26393 : Index := Scalar.indexCast v22826
  let c256_9493 : Index := 256#32
  ![v26393.toNat, 256]
def k0_off17 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26396 : Index := Scalar.indexCast v22826
  let c384_9494 : Index := 384#32
  ![v26396.toNat, 384]
def k0_off18 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26399 : Index := Scalar.indexCast v22826
  let c512_9495 : Index := 512#32
  ![v26399.toNat, 512]
def k0_off19 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26402 : Index := Scalar.indexCast v22826
  let c640_9496 : Index := 640#32
  ![v26402.toNat, 640]
def k0_off20 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26405 : Index := Scalar.indexCast v22826
  let c768_9497 : Index := 768#32
  ![v26405.toNat, 768]
def k0_off21 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26408 : Index := Scalar.indexCast v22826
  let c896_9498 : Index := 896#32
  ![v26408.toNat, 896]
def k0_off22 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let v26411 : Index := Scalar.indexCast v22826
  let c1024_9499 : Index := 1024#32
  ![v26411.toNat, 1024]
def k0_off23 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let c0_i32_9613 : BitVec 32 := 0#32
  ![v22826.toNat, 0]
def k0_off24 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  let c0_i32_9613 : BitVec 32 := 0#32
  ![v22826.toNat, 0]
def k0_off25 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 128]
def k0_off26 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 256]
def k0_off27 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 384]
def k0_off28 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 512]
def k0_off29 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 640]
def k0_off30 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 768]
def k0_off31 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 896]
def k0_off32 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 1024]
def k0_off33 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 1152]
def k0_off34 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 1280]
def k0_off35 (k0_t1 : Fin k0_t1_loop.trips) : Fin 2 → Nat :=
  let c0_i32_8428 : BitVec 32 := 0#32
  let c1_i32_8429 : BitVec 32 := 1#32
  let arg9 : BitVec 32 := Scf.iv c0_i32_8428 c1_i32_8429 k0_t1
  let c32_i32 : BitVec 32 := 32#32
  let v22825 : BitVec 32 := Scalar.muli arg9 c32_i32
  let v22826 : BitVec 32 := v22825
  ![v22826.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1280x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1152 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x48 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1152 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1280x48 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Slice.lean ====
abbrev S1280x1152 : Shape := ⟨2, ![1280, 1152]⟩
abbrev S1280x48 : Shape := ⟨2, ![1280, 48]⟩
abbrev S6144x1152 : Shape := ⟨2, ![6144, 1152]⟩
abbrev S6144x48 : Shape := ⟨2, ![6144, 48]⟩
abbrev S1280x6144 : Shape := ⟨2, ![1280, 6144]⟩
abbrev S512x1152 : Shape := ⟨2, ![512, 1152]⟩
abbrev S512x48 : Shape := ⟨2, ![512, 48]⟩
abbrev S1280x512 : Shape := ⟨2, ![1280, 512]⟩
abbrev S1280x1536 : Shape := ⟨2, ![1280, 1536]⟩
abbrev S512x1536 : Shape := ⟨2, ![512, 1536]⟩
abbrev S32x128 : Shape := ⟨2, ![32, 128]⟩
abbrev S8x128 : Shape := ⟨2, ![8, 128]⟩
abbrev S32x48 : Shape := ⟨2, ![32, 48]⟩
abbrev S32x80 : Shape := ⟨2, ![32, 80]⟩
abbrev S16x128 : Shape := ⟨2, ![16, 128]⟩
abbrev S8x128x1 : Shape := ⟨3, ![8, 128, 1]⟩
abbrev S32x1536 : Shape := ⟨2, ![32, 1536]⟩

abbrev nBuf : Space → Nat
  | .hbm => 5
  | .vmem => 10
  | .smem => 0
  | _ => 0

abbrev bufTy : (tb : Table) → Fin (tcTables nBuf tb) → BufTy
  | .hbm, ⟨0, _⟩ => ⟨S1280x1152, .i8⟩
  | .hbm, ⟨1, _⟩ => ⟨S1280x48, .i8⟩
  | .hbm, ⟨2, _⟩ => ⟨S6144x1152, .i8⟩
  | .hbm, ⟨3, _⟩ => ⟨S6144x48, .i8⟩
  | .hbm, ⟨4, _⟩ => ⟨S1280x6144, .bf16⟩
  | .local _ .vmem, ⟨0, _⟩ => ⟨S1280x1152, .i8⟩
  | .local _ .vmem, ⟨1, _⟩ => ⟨S1280x48, .i8⟩
  | .local _ .vmem, ⟨2, _⟩ => ⟨S512x1152, .i8⟩
  | .local _ .vmem, ⟨3, _⟩ => ⟨S512x1152, .i8⟩
  | .local _ .vmem, ⟨4, _⟩ => ⟨S512x48, .i8⟩
  | .local _ .vmem, ⟨5, _⟩ => ⟨S512x48, .i8⟩
  | .local _ .vmem, ⟨6, _⟩ => ⟨S1280x512, .bf16⟩
  | .local _ .vmem, ⟨7, _⟩ => ⟨S1280x512, .bf16⟩
  | .local _ .vmem, ⟨8, _⟩ => ⟨S1280x1536, .bf16⟩
  | .local _ .vmem, ⟨9, _⟩ => ⟨S512x1536, .bf16⟩
  | _, _ => ⟨S1280x1152, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8427 : BitVec 32 := 0#32
  let c40_i32 : BitVec 32 := 40#32
  let v22808 : BitVec 32 := Scalar.addi c0_i32_8427 c40_i32
  let c1_i32_8428 : BitVec 32 := 1#32
  ⟨c0_i32_8427, v22808, c1_i32_8428⟩
def k0_mult1 (k0_t1 : Fin k0_t1_loop.trips) : BitVec 32 :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  v22809
def k0_off1 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22811 : Index := Scalar.indexCast v22810
  let c0_8430 : Index := 0#32
  ![v22811.toNat, 0]
def k0_off2 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22814 : Index := Scalar.indexCast v22810
  let c128_8431 : Index := 128#32
  ![v22814.toNat, 128]
def k0_off3 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22817 : Index := Scalar.indexCast v22810
  let c256_8432 : Index := 256#32
  ![v22817.toNat, 256]
def k0_off4 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22820 : Index := Scalar.indexCast v22810
  let c384_8433 : Index := 384#32
  ![v22820.toNat, 384]
def k0_off5 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22823 : Index := Scalar.indexCast v22810
  let c512_8434 : Index := 512#32
  ![v22823.toNat, 512]
def k0_off6 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22826 : Index := Scalar.indexCast v22810
  let c640_8435 : Index := 640#32
  ![v22826.toNat, 640]
def k0_off7 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22829 : Index := Scalar.indexCast v22810
  let c768_8436 : Index := 768#32
  ![v22829.toNat, 768]
def k0_off8 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22832 : Index := Scalar.indexCast v22810
  let c896_8437 : Index := 896#32
  ![v22832.toNat, 896]
def k0_off9 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22835 : Index := Scalar.indexCast v22810
  let c1024_8438 : Index := 1024#32
  ![v22835.toNat, 1024]
def k0_off10 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let v22838 : Index := Scalar.indexCast v22810
  let c0_8439 : Index := 0#32
  ![v22838.toNat, 0]
def k0_off11 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let c0_i32_8555 : BitVec 32 := 0#32
  ![v22810.toNat, 0]
def k0_off12 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  let c0_i32_8555 : BitVec 32 := 0#32
  ![v22810.toNat, 0]
def k0_off13 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 128]
def k0_off14 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 256]
def k0_off15 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 384]
def k0_off16 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 512]
def k0_off17 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 640]
def k0_off18 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 768]
def k0_off19 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 896]
def k0_off20 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 1024]
def k0_off21 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 1152]
def k0_off22 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 1280]
def k0_off23 (k0_t1 : Fin k0_t1_loop.trips) : Fin 2 → Nat :=
  let c0_i32_8427 : BitVec 32 := 0#32
  let c1_i32_8428 : BitVec 32 := 1#32
  let arg8 : BitVec 32 := Scf.iv c0_i32_8427 c1_i32_8428 k0_t1
  let c32_i32 : BitVec 32 := 32#32
  let v22809 : BitVec 32 := Scalar.muli arg8 c32_i32
  let v22810 : BitVec 32 := v22809
  ![v22810.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x1152 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1280x48 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1152 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x48 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1280x1152 : Shape := ⟨2, ![1280, 1152]⟩
abbrev S1280x48 : Shape := ⟨2, ![1280, 48]⟩
abbrev S6144x1152 : Shape := ⟨2, ![6144, 1152]⟩
abbrev S6144x48 : Shape := ⟨2, ![6144, 48]⟩
abbrev S1280x384x3 : Shape := ⟨3, ![1280, 384, 3]⟩
abbrev S1280x384x1 : Shape := ⟨3, ![1280, 384, 1]⟩
abbrev S1280x384 : Shape := ⟨2, ![1280, 384]⟩
abbrev S_ : Shape := ⟨0, ![]⟩
abbrev S4 : Shape := ⟨1, ![4]⟩
abbrev S1x1x4 : Shape := ⟨3, ![1, 1, 4]⟩
abbrev S1280x384x4 : Shape := ⟨3, ![1280, 384, 4]⟩
abbrev S1280x48x32 : Shape := ⟨3, ![1280, 48, 32]⟩
abbrev S1280x48x1 : Shape := ⟨3, ![1280, 48, 1]⟩
abbrev S1280x1536 : Shape := ⟨2, ![1280, 1536]⟩
abbrev S6144x384x3 : Shape := ⟨3, ![6144, 384, 3]⟩
abbrev S6144x384x1 : Shape := ⟨3, ![6144, 384, 1]⟩
abbrev S6144x384 : Shape := ⟨2, ![6144, 384]⟩
abbrev S6144x384x4 : Shape := ⟨3, ![6144, 384, 4]⟩
abbrev S6144x48x32 : Shape := ⟨3, ![6144, 48, 32]⟩
abbrev S6144x48x1 : Shape := ⟨3, ![6144, 48, 1]⟩
abbrev S6144x1536 : Shape := ⟨2, ![6144, 1536]⟩
abbrev S1280x6144 : Shape := ⟨2, ![1280, 6144]⟩

abbrev nBuf : Space → Nat
  | .hbm => 192
  | .vmem => 0
  | .smem => 0
  | _ => 0

abbrev hbmTy0_0 (i : Nat) : BufTy := match i % 128 with
  | 0 => ⟨S1280x1152, .i8⟩
  | 1 => ⟨S1280x48, .i8⟩
  | 2 => ⟨S6144x1152, .i8⟩
  | 3 => ⟨S6144x48, .i8⟩
  | 4 => ⟨S1280x1152, .i32⟩
  | 5 => ⟨S1280x384x3, .i32⟩
  | 6 => ⟨S1280x384x1, .i32⟩
  | 7 => ⟨S1280x384, .i32⟩
  | 8 => ⟨S1280x384x1, .i32⟩
  | 9 => ⟨S1280x384, .i32⟩
  | 10 => ⟨S_, .i32⟩
  | 11 => ⟨S1280x384, .i32⟩
  | 12 => ⟨S1280x384, .i32⟩
  | 13 => ⟨S1280x384, .i32⟩
  | 14 => ⟨S1280x384x1, .i32⟩
  | 15 => ⟨S1280x384, .i32⟩
  | 16 => ⟨S_, .i32⟩
  | 17 => ⟨S1280x384, .i32⟩
  | 18 => ⟨S1280x384, .i32⟩
  | 19 => ⟨S1280x384, .i32⟩
  | 20 => ⟨S1280x384x1, .i32⟩
  | 21 => ⟨S4, .i32⟩
  | 22 => ⟨S_, .i32⟩
  | 23 => ⟨S4, .i32⟩
  | 24 => ⟨S4, .i32⟩
  | 25 => ⟨S1x1x4, .i32⟩
  | 26 => ⟨S1280x384x4, .i32⟩
  | 27 => ⟨S1280x384x4, .i32⟩
  | 28 => ⟨S1280x384x4, .i32⟩
  | 29 => ⟨S_, .i32⟩
  | 30 => ⟨S1280x384x4, .i32⟩
  | 31 => ⟨S1280x384x4, .i32⟩
  | 32 => ⟨S_, .i32⟩
  | 33 => ⟨S1280x384x4, .i32⟩
  | 34 => ⟨S1280x384x4, .i32⟩
  | 35 => ⟨S_, .i32⟩
  | 36 => ⟨S1280x384x4, .i32⟩
  | 37 => ⟨S1280x384x4, .i32⟩
  | 38 => ⟨S_, .i32⟩
  | 39 => ⟨S1280x384x4, .i32⟩
  | 40 => ⟨S1280x384x4, .i32⟩
  | 41 => ⟨S_, .i32⟩
  | 42 => ⟨S1280x384x4, .i32⟩
  | 43 => ⟨S1280x384x4, .i32⟩
  | 44 => ⟨S_, .i32⟩
  | 45 => ⟨S1280x384x4, .i32⟩
  | 46 => ⟨S1280x384x4, .i32⟩
  | 47 => ⟨S_, .i32⟩
  | 48 => ⟨S1280x384x4, .i32⟩
  | 49 => ⟨S1280x384x4, .i32⟩
  | 50 => ⟨S1280x384x4, .i32⟩
  | 51 => ⟨S1280x384x4, .f32⟩
  | 52 => ⟨S_, .i32⟩
  | 53 => ⟨S1280x384x4, .i32⟩
  | 54 => ⟨S1280x384x4, .i32⟩
  | 55 => ⟨S_, .i32⟩
  | 56 => ⟨S1280x384x4, .i32⟩
  | 57 => ⟨S1280x384x4, .i32⟩
  | 58 => ⟨S1280x384x4, .f32⟩
  | 59 => ⟨S_, .f32⟩
  | 60 => ⟨S1280x384x4, .f32⟩
  | 61 => ⟨S1280x384x4, .f32⟩
  | 62 => ⟨S1280x384x4, .f32⟩
  | 63 => ⟨S_, .i32⟩
  | 64 => ⟨S1280x384x4, .i32⟩
  | 65 => ⟨S1280x384x4, .i1⟩
  | 66 => ⟨S1280x384x4, .f32⟩
  | 67 => ⟨S1280x384x4, .f32⟩
  | 68 => ⟨S1280x384x4, .bf16⟩
  | 69 => ⟨S1280x48, .i32⟩
  | 70 => ⟨S_, .i32⟩
  | 71 => ⟨S1280x48, .i32⟩
  | 72 => ⟨S1280x48, .i1⟩
  | 73 => ⟨S_, .i32⟩
  | 74 => ⟨S1280x48, .i32⟩
  | 75 => ⟨S1280x48, .i1⟩
  | 76 => ⟨S_, .i32⟩
  | 77 => ⟨S1280x48, .i32⟩
  | 78 => ⟨S1280x48, .i32⟩
  | 79 => ⟨S1280x48, .f32⟩
  | 80 => ⟨S_, .f32⟩
  | 81 => ⟨S1280x48, .f32⟩
  | 82 => ⟨S1280x48, .f32⟩
  | 83 => ⟨S_, .f32⟩
  | 84 => ⟨S_, .f32⟩
  | 85 => ⟨S1280x48, .f32⟩
  | 86 => ⟨S1280x48, .f32⟩
  | 87 => ⟨S_, .f32⟩
  | 88 => ⟨S_, .f32⟩
  | 89 => ⟨S1280x48, .f32⟩
  | 90 => ⟨S1280x48, .f32⟩
  | 91 => ⟨S1280x48, .bf16⟩
  | 92 => ⟨S1280x48x32, .bf16⟩
  | 93 => ⟨S1280x48x1, .bf16⟩
  | 94 => ⟨S1280x48x32, .bf16⟩
  | 95 => ⟨S1280x48x32, .bf16⟩
  | 96 => ⟨S1280x1536, .bf16⟩
  | 97 => ⟨S6144x1152, .i32⟩
  | 98 => ⟨S6144x384x3, .i32⟩
  | 99 => ⟨S6144x384x1, .i32⟩
  | 100 => ⟨S6144x384, .i32⟩
  | 101 => ⟨S6144x384x1, .i32⟩
  | 102 => ⟨S6144x384, .i32⟩
  | 103 => ⟨S_, .i32⟩
  | 104 => ⟨S6144x384, .i32⟩
  | 105 => ⟨S6144x384, .i32⟩
  | 106 => ⟨S6144x384, .i32⟩
  | 107 => ⟨S6144x384x1, .i32⟩
  | 108 => ⟨S6144x384, .i32⟩
  | 109 => ⟨S_, .i32⟩
  | 110 => ⟨S6144x384, .i32⟩
  | 111 => ⟨S6144x384, .i32⟩
  | 112 => ⟨S6144x384, .i32⟩
  | 113 => ⟨S6144x384x1, .i32⟩
  | 114 => ⟨S4, .i32⟩
  | 115 => ⟨S_, .i32⟩
  | 116 => ⟨S4, .i32⟩
  | 117 => ⟨S4, .i32⟩
  | 118 => ⟨S1x1x4, .i32⟩
  | 119 => ⟨S6144x384x4, .i32⟩
  | 120 => ⟨S6144x384x4, .i32⟩
  | 121 => ⟨S6144x384x4, .i32⟩
  | 122 => ⟨S_, .i32⟩
  | 123 => ⟨S6144x384x4, .i32⟩
  | 124 => ⟨S6144x384x4, .i32⟩
  | 125 => ⟨S_, .i32⟩
  | 126 => ⟨S6144x384x4, .i32⟩
  | 127 => ⟨S6144x384x4, .i32⟩
  | _ => ⟨S1280x1152, .i8⟩

abbrev hbmTy0_1 (i : Nat) : BufTy := match i % 128 with
  | 0 => ⟨S_, .i32⟩
  | 1 => ⟨S6144x384x4, .i32⟩
  | 2 => ⟨S6144x384x4, .i32⟩
  | 3 => ⟨S_, .i32⟩
  | 4 => ⟨S6144x384x4, .i32⟩
  | 5 => ⟨S6144x384x4, .i32⟩
  | 6 => ⟨S_, .i32⟩
  | 7 => ⟨S6144x384x4, .i32⟩
  | 8 => ⟨S6144x384x4, .i32⟩
  | 9 => ⟨S_, .i32⟩
  | 10 => ⟨S6144x384x4, .i32⟩
  | 11 => ⟨S6144x384x4, .i32⟩
  | 12 => ⟨S_, .i32⟩
  | 13 => ⟨S6144x384x4, .i32⟩
  | 14 => ⟨S6144x384x4, .i32⟩
  | 15 => ⟨S6144x384x4, .i32⟩
  | 16 => ⟨S6144x384x4, .f32⟩
  | 17 => ⟨S_, .i32⟩
  | 18 => ⟨S6144x384x4, .i32⟩
  | 19 => ⟨S6144x384x4, .i32⟩
  | 20 => ⟨S_, .i32⟩
  | 21 => ⟨S6144x384x4, .i32⟩
  | 22 => ⟨S6144x384x4, .i32⟩
  | 23 => ⟨S6144x384x4, .f32⟩
  | 24 => ⟨S_, .f32⟩
  | 25 => ⟨S6144x384x4, .f32⟩
  | 26 => ⟨S6144x384x4, .f32⟩
  | 27 => ⟨S6144x384x4, .f32⟩
  | 28 => ⟨S_, .i32⟩
  | 29 => ⟨S6144x384x4, .i32⟩
  | 30 => ⟨S6144x384x4, .i1⟩
  | 31 => ⟨S6144x384x4, .f32⟩
  | 32 => ⟨S6144x384x4, .f32⟩
  | 33 => ⟨S6144x384x4, .bf16⟩
  | 34 => ⟨S6144x48, .i32⟩
  | 35 => ⟨S_, .i32⟩
  | 36 => ⟨S6144x48, .i32⟩
  | 37 => ⟨S6144x48, .i1⟩
  | 38 => ⟨S_, .i32⟩
  | 39 => ⟨S6144x48, .i32⟩
  | 40 => ⟨S6144x48, .i1⟩
  | 41 => ⟨S_, .i32⟩
  | 42 => ⟨S6144x48, .i32⟩
  | 43 => ⟨S6144x48, .i32⟩
  | 44 => ⟨S6144x48, .f32⟩
  | 45 => ⟨S_, .f32⟩
  | 46 => ⟨S6144x48, .f32⟩
  | 47 => ⟨S6144x48, .f32⟩
  | 48 => ⟨S_, .f32⟩
  | 49 => ⟨S_, .f32⟩
  | 50 => ⟨S6144x48, .f32⟩
  | 51 => ⟨S6144x48, .f32⟩
  | 52 => ⟨S_, .f32⟩
  | 53 => ⟨S_, .f32⟩
  | 54 => ⟨S6144x48, .f32⟩
  | 55 => ⟨S6144x48, .f32⟩
  | 56 => ⟨S6144x48, .bf16⟩
  | 57 => ⟨S6144x48x32, .bf16⟩
  | 58 => ⟨S6144x48x1, .bf16⟩
  | 59 => ⟨S6144x48x32, .bf16⟩
  | 60 => ⟨S6144x48x32, .bf16⟩
  | 61 => ⟨S6144x1536, .bf16⟩
  | 62 => ⟨S1280x6144, .f32⟩
  | 63 => ⟨S1280x6144, .bf16⟩
  | _ => ⟨S1280x1152, .i8⟩

abbrev hbmTy (i : Nat) : BufTy := match i / 128 with
  | 0 => hbmTy0_0 i
  | 1 => hbmTy0_1 i
  | _ => ⟨S1280x1152, .i8⟩

abbrev bufTy : (tb : Table) → Fin (tcTables nBuf tb) → BufTy
  | .hbm, ⟨i, _⟩ => hbmTy i
  | _, _ => ⟨S1280x1152, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_c_7 : Ref sig .tc := ⟨.hbm, 44, rfl⟩
abbrev main_v32 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_9 : Ref sig .tc := ⟨.hbm, 52, rfl⟩
abbrev main_v38 : Ref sig .tc := ⟨.hbm, 53, rfl⟩
abbrev main_v39 : Ref sig .tc := ⟨.hbm, 54, rfl⟩
abbrev main_c_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_call1_v0 : Ref sig .tc := ⟨.hbm, 84, rfl⟩
abbrev main_call1_v1 : Ref sig .tc := ⟨.hbm, 85, rfl⟩
abbrev main_v61 : Ref sig .tc := ⟨.hbm, 86, rfl⟩
abbrev main_cst_17 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_19 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_21 : Ref sig .tc := ⟨.hbm, 122, rfl⟩
abbrev main_v91 : Ref sig .tc := ⟨.hbm, 123, rfl⟩
abbrev main_v92 : Ref sig .tc := ⟨.hbm, 124, rfl⟩
abbrev main_c_22 : Ref sig .tc := ⟨.hbm, 125, rfl⟩
abbrev main_v93 : Ref sig .tc := ⟨.hbm, 126, rfl⟩
abbrev main_v94 : Ref sig .tc := ⟨.hbm, 127, rfl⟩
abbrev main_c_23 : Ref sig .tc := ⟨.hbm, 128, rfl⟩
abbrev main_v95 : Ref sig .tc := ⟨.hbm, 129, rfl⟩
abbrev main_v96 : Ref sig .tc := ⟨.hbm, 130, rfl⟩
abbrev main_c_24 : Ref sig .tc := ⟨.hbm, 131, rfl⟩
abbrev main_v97 : Ref sig .tc := ⟨.hbm, 132, rfl⟩
abbrev main_v98 : Ref sig .tc := ⟨.hbm, 133, rfl⟩
abbrev main_c_25 : Ref sig .tc := ⟨.hbm, 134, rfl⟩
abbrev main_v99 : Ref sig .tc := ⟨.hbm, 135, rfl⟩
abbrev main_v100 : Ref sig .tc := ⟨.hbm, 136, rfl⟩
abbrev main_c_26 : Ref sig .tc := ⟨.hbm, 137, rfl⟩
abbrev main_v101 : Ref sig .tc := ⟨.hbm, 138, rfl⟩
abbrev main_v102 : Ref sig .tc := ⟨.hbm, 139, rfl⟩
abbrev main_c_27 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_28 : Ref sig .tc := ⟨.hbm, 145, rfl⟩
abbrev main_v107 : Ref sig .tc := ⟨.hbm, 146, rfl⟩
abbrev main_v108 : Ref sig .tc := ⟨.hbm, 147, rfl⟩
abbrev main_c_29 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_30 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_31 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c_32 : Ref sig .tc := ⟨.hbm, 163, rfl⟩
abbrev main_v121 : Ref sig .tc := ⟨.hbm, 164, rfl⟩
abbrev main_v122 : Ref sig .tc := ⟨.hbm, 165, rfl⟩
abbrev main_c_33 : Ref sig .tc := ⟨.hbm, 166, rfl⟩
abbrev main_v123 : Ref sig .tc := ⟨.hbm, 167, rfl⟩
abbrev main_v124 : Ref sig .tc := ⟨.hbm, 168, rfl⟩
abbrev main_c_34 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_35 : Ref sig .tc := ⟨.hbm, 173, rfl⟩
abbrev main_v128 : Ref sig .tc := ⟨.hbm, 174, rfl⟩
abbrev main_v129 : Ref sig .tc := ⟨.hbm, 175, rfl⟩
abbrev main_cst_36 : Ref sig .tc := ⟨.hbm, 176, rfl⟩
abbrev main_call4_v0 : Ref sig .tc := ⟨.hbm, 177, rfl⟩
abbrev main_call4_v1 : Ref sig .tc := ⟨.hbm, 178, rfl⟩
abbrev main_v130 : Ref sig .tc := ⟨.hbm, 179, rfl⟩
abbrev main_cst_37 : Ref sig .tc := ⟨.hbm, 180, rfl⟩
abbrev main_call5_v0 : Ref sig .tc := ⟨.hbm, 181, rfl⟩
abbrev main_call5_v1 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩

abbrev nD : Nat := 1
abbrev τ : Topo := Topo.v7x

variable {F : FTy → Type} [FloatOps F]
-- ==== Proof.Code.lean ====
module

public import Idealize.ShloMosaic.PureOps.Ideal
public import Mathlib.Tactic.IntervalCases
public import Mathlib.Tactic.FinCases
public import Mathlib.Tactic.NormNum
public import Mathlib.Tactic.Ring

@[expose] public section

noncomputable section

namespace Cert.Decode

open Idealize.ShloMosaic

/-! ## Codes of three packed bytes, and what a code and a scale code denote -/

/-- Byte `j` of a word. -/
def byteOf (w : BitVec 32) (j : Fin 4) : BitVec 8 := w.extractLsb' (8 * j.val) 8

/-- Three packed bytes as one 24-bit number, the first byte lowest. -/
def packed (b0 b1 b2 : BitVec 8) : BitVec 24 := b2 ++ (b1 ++ b0)

/-- The 6-bit code `f` of three packed bytes. -/
def code (v : BitVec 24) (f : Fin 4) : BitVec 6 := v.extractLsb' (6 * f.val) 6

/-- A 6-bit code (sign, two bits of exponent, three of mantissa) as a byte of the wider float format. -/
def wide (c : BitVec 6) : BitVec 8 := c.extractLsb' 5 1 ++ (0#2 ++ c.extractLsb' 0 5)

/-- The number a 6-bit code stands for: exponent field 0 is subnormal. -/
def codeReal (c : BitVec 6) : ℝ :=
  (if c.extractLsb' 5 1 = 1#1 then -1 else 1) *
    (((c.extractLsb' 0 3).toNat + 8 * min (c.extractLsb' 3 2).toNat 1 : Nat) : ℝ) *
      (2 : ℝ) ^ ((max (c.extractLsb' 3 2).toNat 1 : Nat) - 4 : ℤ)

/-- The number a scale code stands for: a power of two, except 0 for code 0 and infinity for code 255. -/
def scaleOf (k : BitVec 8) : EReal :=
  if k = 0#8 then 0 else if k = 255#8 then ⊤ else (((2 : ℝ) ^ ((k.toNat : ℤ) - 127) : ℝ) : EReal)

/-- A code's byte read in the wider format, times 64, is the code's number. -/
theorem e4m3_wide (c : BitVec 6) : Ideal.e4m3fn (wide c) * ((64 : ℝ) : EReal) = (codeReal c : EReal) := by
  have h1 : (wide c).extractLsb' 7 1 = c.extractLsb' 5 1 := by revert c; decide +kernel
  have h2 : ((wide c).extractLsb' 3 4).toNat = (c.extractLsb' 3 2).toNat := by revert c; decide +kernel
  have h3 : (wide c).extractLsb' 0 3 = c.extractLsb' 0 3 := by revert c; decide +kernel
  have he : (c.extractLsb' 3 2).toNat < 4 := (c.extractLsb' 3 2).isLt
  unfold Ideal.e4m3fn codeReal
  simp only [h1, h2, h3, beq_iff_eq]
  generalize (c.extractLsb' 3 2).toNat = e at he
  generalize (c.extractLsb' 0 3).toNat = m
  generalize (if c.extractLsb' 5 1 = 1#1 then (-1 : ℝ) else 1) = s
  rw [if_neg (by omega)]
  by_cases h0 : e = 0
  · subst h0
    rw [if_pos rfl, ← EReal.coe_mul]; congr 1; norm_num; ring
  · rw [if_neg h0, ← EReal.coe_mul, min_eq_right (by omega), max_eq_left (by omega)]; congr 1
    rw [show ((e : ℤ) - 4) = ((e : ℤ) - 10) + 6 by ring, zpow_add₀ (by norm_num)]
    push_cast; norm_num; ring

/-- The bf16 word that is a scale code shifted to the exponent field, as a number. -/
theorem bf16_scale (k : BitVec 8) : Ideal.ieee 8 7 ((k.setWidth 32 <<< 7).setWidth 16) = scaleOf k := by
  have h1 : ((k.setWidth 32 <<< 7).setWidth 16).extractLsb' (8 + 7) 1 = 0#1 := by
    revert k; decide +kernel
  have h2 : ((k.setWidth 32 <<< 7).setWidth 16).extractLsb' 7 8 = k := by revert k; decide +kernel
  have h3 : ((k.setWidth 32 <<< 7).setWidth 16).extractLsb' 0 7 = 0#7 := by revert k; decide +kernel
  unfold Ideal.ieee scaleOf
  simp only [h1, h2, h3]
  by_cases h255 : k = 255#8
  · subst h255; simp
  · have : k.toNat ≠ 255 := fun h => h255 (BitVec.eq_of_toNat_eq h)
    by_cases h0 : k = 0#8
    · subst h0; simp
    · have hz : k.toNat ≠ 0 := fun h => h0 (BitVec.eq_of_toNat_eq h)
      rw [if_neg (by simpa using this), if_neg hz, if_neg h0, if_neg h255]
      congr 1
      have e : ((k.toNat : ℤ) - 127) = ((k.toNat : ℤ) - (2 ^ (8 - 1) - 1) - (7 : ℕ)) + 7 := by norm_num
      rw [e, zpow_add₀ (by norm_num)]
      simp; ring

end Cert.Decode

end
-- ==== Proof.Bytes.lean ====
module

public import proofs.«01_k».proof.Proof.Code

@[expose] public section

noncomputable section

namespace Cert.Decode

/-! ## The words' bit operations, byte by byte -/

/-- The widening of a word's four codes to the bytes of the wider float format. -/
def widenW (c : BitVec 32) : BitVec 32 := (c &&& 522133279#32) ||| ((c <<< 2) &&& 2155905152#32)

/-- The bits of a widened code. -/
theorem wide_getLsbD (c : BitVec 6) (i : Nat) (hi : i < 8) :
    (wide c).getLsbD i = if i < 5 then c.getLsbD i else if i < 7 then false else c.getLsbD 5 := by
  revert c
  interval_cases i <;> decide +kernel

/-- The bits of a code. -/
theorem code_getLsbD (v : BitVec 24) (f : Fin 4) (i : Nat) :
    (code v f).getLsbD i = (decide (i < 6) && v.getLsbD (6 * f.val + i)) := by
  unfold code; rw [BitVec.getLsbD_extractLsb']

/-- The bits of three packed bytes. -/
theorem packed_getLsbD (b0 b1 b2 : BitVec 8) (i : Nat) :
    (packed b0 b1 b2).getLsbD i
      = if i < 8 then b0.getLsbD i else if i < 16 then b1.getLsbD (i - 8) else b2.getLsbD (i - 16) := by
  unfold packed
  have h : (b2 ++ (b1 ++ b0) : BitVec (8 + (8 + 8))).getLsbD i
      = if i < 16 then (b1 ++ b0 : BitVec (8 + 8)).getLsbD i else b2.getLsbD (i - 16) := BitVec.getLsbD_append
  refine h.trans ?_
  rw [BitVec.getLsbD_append]
  by_cases h8 : i < 8
  · simp [h8, show i < 16 by omega]
  · simp [h8]

/-- Residue 0: the code is the byte's low six bits. -/
theorem byte_code0 (w n : BitVec 32) (j : Fin 4) (b1 b2 : BitVec 8) :
    byteOf (widenW (((w >>> 0) &&& 1061109567#32) ||| ((n <<< 4) &&& 0#32))) j
      = wide (code (packed (byteOf w j) b1 b2) 0) := by
  apply BitVec.eq_of_getLsbD_eq
  intro i hi
  fin_cases j <;> interval_cases i <;>
    simp [byteOf, widenW, wide_getLsbD, code_getLsbD, packed_getLsbD, -BitVec.getLsbD_eq_getElem]

/-- Residue 1: the code is the byte's high four bits and the next byte's low two. -/
theorem byte_code2 (w n : BitVec 32) (j : Fin 4) (b0 : BitVec 8) :
    byteOf (widenW (((w >>> 4) &&& 252645135#32) ||| ((n <<< 4) &&& 808464432#32))) j
      = wide (code (packed b0 (byteOf w j) (byteOf n j)) 2) := by
  apply BitVec.eq_of_getLsbD_eq
  intro i hi
  fin_cases j <;> interval_cases i <;>
    simp [byteOf, widenW, wide_getLsbD, code_getLsbD, packed_getLsbD, -BitVec.getLsbD_eq_getElem]

/-- Residue 2: the code is the byte's high six bits. -/
theorem byte_code3 (w n : BitVec 32) (j : Fin 4) (b0 b1 : BitVec 8) :
    byteOf (widenW (((w >>> 2) &&& 1061109567#32) ||| ((n <<< 4) &&& 0#32))) j
      = wide (code (packed b0 b1 (byteOf w j)) 3) := by
  apply BitVec.eq_of_getLsbD_eq
  intro i hi
  fin_cases j <;> interval_cases i <;>
    simp [byteOf, widenW, wide_getLsbD, code_getLsbD, packed_getLsbD, -BitVec.getLsbD_eq_getElem]

/-- The remaining code: the first byte's high two bits and the next byte's low four. -/
theorem byte_code1 (w n : BitVec 32) (j : Fin 4) (b2 : BitVec 8) :
    byteOf (widenW (((w >>> 6) &&& 50529027#32) ||| ((n <<< 2) &&& 1010580540#32))) j
      = wide (code (packed (byteOf w j) (byteOf n j) b2) 1) := by
  apply BitVec.eq_of_getLsbD_eq
  intro i hi
  fin_cases j <;> interval_cases i <;>
    simp [byteOf, widenW, wide_getLsbD, code_getLsbD, packed_getLsbD, -BitVec.getLsbD_eq_getElem]

end Cert.Decode
end
-- ==== Proof.Plain.lean ====
module

public import proofs.«01_k».proof.Proof.Bytes
public import Idealize.ShloMosaic.Lib.IdealHost
public import Idealize.ShloMosaic.Lib.Pointwise.Tactic

@[expose] public section

noncomputable section

namespace Cert.Decode

open Idealize.ShloMosaic

/-! ## The reference's arithmetic on one code and one scale -/

/-- The reference's code `f` of three bytes: shifts, ors and a mask of 32-bit words. -/
theorem plain_code (b0 b1 b2 : BitVec 8) (f : Fin 4) :
    IntOp.andi (IntOp.shrsi .host (IntOp.ori (IntOp.ori (b0.setWidth 32) (IntOp.shli .host (b1.setWidth 32) 8#32))
      (IntOp.shli .host (b2.setWidth 32) 16#32)) (IntOp.muli 6#32 (BitVec.ofNat 32 f.val))) 63#32
      = (code (packed b0 b1 b2) f).setWidth 32 := by
  have hs : (b0.setWidth 32 ||| b1.setWidth 32 <<< 8 ||| b2.setWidth 32 <<< 16 : BitVec 32).msb = false := by
    rw [BitVec.msb_eq_getLsbD_last]; simp
  have e : IntOp.shrsi .host (IntOp.ori (IntOp.ori (b0.setWidth 32) (IntOp.shli .host (b1.setWidth 32) 8#32))
      (IntOp.shli .host (b2.setWidth 32) 16#32)) (IntOp.muli 6#32 (BitVec.ofNat 32 f.val))
      = (b0.setWidth 32 ||| b1.setWidth 32 <<< 8 ||| b2.setWidth 32 <<< 16 : BitVec 32) >>> (6 * f.val) := by
    have hf : (IntOp.muli 6#32 (BitVec.ofNat 32 f.val) : BitVec 32).toNat = 6 * f.val := by revert f; decide +kernel
    unfold IntOp.shrsi
    rw [hf, if_pos (by omega)]
    show BitVec.sshiftRight' (b0.setWidth 32 ||| b1.setWidth 32 <<< 8 ||| b2.setWidth 32 <<< 16 : BitVec 32) _ = _
    rw [BitVec.sshiftRight', BitVec.sshiftRight_eq_of_msb_false hs, hf]
  rw [e]
  show _ &&& 63#32 = _
  apply BitVec.eq_of_getLsbD_eq
  intro i hi
  rw [BitVec.getLsbD_setWidth, code_getLsbD, packed_getLsbD]
  fin_cases f <;> interval_cases i <;> simp [-BitVec.getLsbD_eq_getElem]

/-- The `f32` word for two. -/
theorem ofBits_two : Ideal.ofBits .f32 0x40000000#32 = ((2 : ℝ) : EReal) := by
  unfold Ideal.ofBits
  simp [Ideal.ieee]
  norm_num
  rw [← EReal.coe_mul]
  norm_num

/-- The `f32` word for infinity. -/
theorem ofBits_inf : Ideal.ofBits .f32 0x7F800000#32 = ⊤ := by
  unfold Ideal.ofBits
  simp [Ideal.ieee]

/-- Two to an integer power, as the reference writes it. -/
theorem plain_exp2 (n : BitVec 32) :
    FloatOps.hostPowf (F := Ideal) (φ := .f32) (Ideal.ofBits .f32 0x40000000#32) (FloatOps.sitofp (F := Ideal) .f32 n)
      = (((2 : ℝ) ^ n.toInt : ℝ) : EReal) := by
  rw [ofBits_two]
  show Ideal.pow ((2 : ℝ) : EReal) ((n.toInt : ℝ) : EReal) = _
  rw [Ideal.pow_coe_coe]
  exact congrArg _ (Real.rpow_intCast 2 n.toInt)

/-- The magnitude of a code, as the reference computes it. -/
def plainMag (w : BitVec 32) : Ideal .f32 :=
  FloatOps.mulf (F := Ideal) (φ := .f32)
    (FloatOps.sitofp (F := Ideal) .f32 (IntOp.addi (IntOp.andi w 7#32) (IntOp.muli 8#32 (IntOp.minsi (IntOp.andi (IntOp.shrsi .host w 3#32) 3#32) 1#32))))
    (FloatOps.hostPowf (F := Ideal) (φ := .f32) (Ideal.ofBits .f32 0x40000000#32)
      (FloatOps.sitofp (F := Ideal) .f32 (IntOp.subi (IntOp.maxsi (IntOp.andi (IntOp.shrsi .host w 3#32) 3#32) 1#32) 4#32)))

/-- A choice by a one-bit comparison is a choice by what the comparison means. -/
theorem select_iff {α : Type} (c : BitVec 1) (P : Prop) [Decidable P] (h : c = 1#1 ↔ P) (a b : α) :
    Scalar.select c a b = if P then a else b := if_congr h rfl rfl

/-- The number of a code, as the reference computes it: the sign chooses the magnitude or its negation. -/
theorem plain_value (c : BitVec 6) :
    Scalar.select (IntOp.cmpi .eq (IntOp.shrsi .host (c.setWidth 32) 5#32) 1#32)
      (FloatOps.hostNegf (F := Ideal) (φ := .f32) (plainMag (c.setWidth 32))) (plainMag (c.setWidth 32)) = (codeReal c : EReal) := by
  have h1 : (IntOp.addi (IntOp.andi (c.setWidth 32) 7#32) (IntOp.muli 8#32 (IntOp.minsi (IntOp.andi (IntOp.shrsi .host (c.setWidth 32) 3#32) 3#32) 1#32))).toInt
      = (((c.extractLsb' 0 3).toNat + 8 * min (c.extractLsb' 3 2).toNat 1 : Nat) : ℤ) := by revert c; decide +kernel
  have h2 : (IntOp.subi (IntOp.maxsi (IntOp.andi (IntOp.shrsi .host (c.setWidth 32) 3#32) 3#32) 1#32) 4#32).toInt
      = ((max (c.extractLsb' 3 2).toNat 1 : Nat) - 4 : ℤ) := by revert c; decide +kernel
  have h3 : IntOp.cmpi .eq (IntOp.shrsi .host (c.setWidth 32) 5#32) 1#32 = c.extractLsb' 5 1 := by revert c; decide +kernel
  have hm : plainMag (c.setWidth 32) = (((((c.extractLsb' 0 3).toNat + 8 * min (c.extractLsb' 3 2).toNat 1 : Nat) : ℝ) *
      (2 : ℝ) ^ ((max (c.extractLsb' 3 2).toNat 1 : Nat) - 4 : ℤ) : ℝ) : EReal) := by
    unfold plainMag
    rw [plain_exp2, h2]
    show ((((_ : BitVec 32).toInt : ℝ)) : EReal) * _ = _
    rw [h1, ← EReal.coe_mul, Int.cast_natCast]
  rw [h3, hm, select_iff _ _ Iff.rfl]
  unfold codeReal
  by_cases h : c.extractLsb' 5 1 = 1#1
  · rw [if_pos h, if_pos h]
    show -_ = _
    rw [← EReal.coe_neg]; congr 1; ring
  · rw [if_neg h, if_neg h, one_mul]

/-- The number of a scale code, as the reference computes it. -/
theorem plain_scale (k : BitVec 8) :
    Scalar.select (IntOp.cmpi .eq (k.setWidth 32) 0#32) (Ideal.ofBits .f32 0x00000000#32)
      (Scalar.select (IntOp.cmpi .eq (k.setWidth 32) 255#32) (Ideal.ofBits .f32 0x7F800000#32)
        (FloatOps.hostPowf (F := Ideal) (φ := .f32) (Ideal.ofBits .f32 0x40000000#32)
          (FloatOps.sitofp (F := Ideal) .f32 (IntOp.subi (k.setWidth 32) 127#32)))) = scaleOf k := by
  have h1 : (IntOp.cmpi .eq (k.setWidth 32) 0#32 = 1#1) ↔ k = 0#8 := by revert k; decide +kernel
  have h2 : (IntOp.cmpi .eq (k.setWidth 32) 255#32 = 1#1) ↔ k = 255#8 := by revert k; decide +kernel
  have h3 : (IntOp.subi (k.setWidth 32) 127#32).toInt = (k.toNat : ℤ) - 127 := by revert k; decide +kernel
  rw [plain_exp2, h3, ofBits_inf, Ideal.ofBits_zero_f32, select_iff _ _ h1, select_iff _ _ h2]
  rfl

end Cert.Decode
end
-- ==== Proof.Tile.lean ====
module

public import proofs.«01_k».proof.Proof.Gen.SliceIdeal
public import Idealize.ShloMosaic.Lib.BitcastFour

@[expose] public section

noncomputable section

namespace Cert.Decode

open Idealize.ShloMosaic Idealize.SL.Sem Cert.SliceIdeal Cert.SliceIdeal.Gen
open Idealize.ShloMosaic.ValueIdx (ix2)

variable {F : FTy → Type} [FloatOps F]

/-! ## One decoded tile, as the kernel's operations compose it -/

/-- The lane number of each element. -/
def lane : IVec S8x128 32 := iota .tc S8x128 32 [1] iota_S8x128_d1_w32

/-- The remainder by 3 with the divisor's sign, on vectors. -/
def mod3 (v : IVec S8x128 32) : IVec S8x128 32 :=
  have d : BitVec 32 := Scalar.select (Scalar.cmpi .eq 3#32 0#32) 1#32 3#32
  have r : IVec S8x128 32 := remsi v (broadcast S8x128 d)
  select (andi (xori (cmpi .slt r (broadcast S8x128 0#32)) (broadcastTo S8x128 (broadcast S8x128 (Scalar.cmpi .slt d 0#32)) broadcasts_S8x128_S8x128))
      (cmpi .ne r (broadcast S8x128 0#32)))
    (addi r (broadcast S8x128 d)) r

/-- The first, second or third vector as the residue is 0, 1 or another. -/
def pick3 {α : Type} (r : IVec S8x128 32) (x y z : S8x128.Idx → α) : S8x128.Idx → α :=
  select (cmpi .eq r (broadcast S8x128 0#32)) x (select (cmpi .eq r (broadcast S8x128 1#32)) y z)

/-- The codes of one of the three aligned tiles, four rows to a word, from the packed words (`own`), the next lane's
    (`nxt`) and the lanes' residues (`r`). -/
def alignedCodes (r own nxt : IVec S8x128 32) : IVec S8x128 32 :=
  ori (andi (shrui own (pick3 r (broadcast S8x128 0#32) (broadcast S8x128 4#32) (broadcast S8x128 2#32)))
        (pick3 r (broadcast S8x128 1061109567#32) (broadcast S8x128 252645135#32) (broadcast S8x128 1061109567#32)))
      (andi (shli nxt (broadcast S8x128 4#32))
        (pick3 r (broadcast S8x128 0#32) (broadcast S8x128 808464432#32) (broadcast S8x128 0#32)))

/-- The codes of the fourth tile. -/
def crossCodes (own nxt : IVec S8x128 32) : IVec S8x128 32 :=
  ori (andi (shrui own (broadcast S8x128 6#32)) (broadcast S8x128 50529027#32))
      (andi (shli nxt (broadcast S8x128 2#32)) (broadcast S8x128 1010580540#32))

/-- The 6-bit codes of a word's four bytes as bytes of the wider float format. -/
def widen (c : IVec S8x128 32) : IVec S8x128 32 :=
  ori (andi c (broadcast S8x128 522133279#32)) (andi (shli c (broadcast S8x128 2#32)) (broadcast S8x128 2155905152#32))

/-- The quotient by 24 rounded down, on vectors. -/
def div24 (v : IVec S8x128 32) : IVec S8x128 32 :=
  have q : IVec S8x128 32 := divsi v (broadcast S8x128 24#32)
  have sv : IVec S8x128 32 := subi (extui 32 (cmpi .sgt v (broadcast S8x128 0#32)) natLt_1_32)
    (extui 32 (cmpi .slt v (broadcast S8x128 0#32)) natLt_1_32)
  have sd : BitVec 32 := Scalar.subi (Scalar.extui (Scalar.cmpi .sgt 24#32 0#32)) (Scalar.extui (Scalar.cmpi .slt 24#32 0#32))
  select (andi (cmpi .ne sv (broadcast S8x128 sd)) (cmpi .ne (remsi v (broadcast S8x128 24#32)) (broadcast S8x128 0#32)))
    (subi q (broadcast S8x128 1#32)) q

/-- A negative index counted from the end. -/
def wrap (v : IVec S8x128 32) : IVec S8x128 32 :=
  shapeCast S8x128 (shapeCast S8x128x1
    (select (cmpi .slt v (broadcast S8x128 0#32)) (addi v (broadcast S8x128 128#32)) v) shapeCasts_S8x128_S8x128x1)
    shapeCasts_S8x128x1_S8x128

/-- The scale words of 32 rows: the 48 scale codes of a row as the exponents of bf16 words, two rows to a word. -/
def scaleWords (s : Vec F S32x48 .i8) : IVec S16x128 32 :=
  bitcast S16x128 32
    (concatenate S32x128 1 [⟨S32x48, trunci 16 (shli (extui 32 s natLt_8_32) (broadcast S32x48 7#32)) natLt_16_32⟩,
      ⟨S32x80, broadcast S32x80 0#16⟩] concatenates_S32x48_S32x80_S32x128_d1)
    bitcasts_S32x128_w16_S16x128_w32

/-- The scale words each lane takes by its block's number. -/
def gatherScales (sw : IVec S16x128 32) (idx : IVec S8x128 32) : IVec S16x128 32 :=
  concatenate S16x128 0
    [⟨S8x128, dynamicGather 1 (extractStridedSlice S8x128 ![0, 0] sw slices_S16x128_o0_0_S8x128) (wrap idx)⟩,
     ⟨S8x128, dynamicGather 1 (extractStridedSlice S8x128 ![8, 0] sw slices_S16x128_o8_0_S8x128) (wrap idx)⟩]
    concatenates_S8x128_S8x128_S16x128_d0

/-- The decoded values of a tile from its code words and its scale words. -/
def values (c : IVec S8x128 32) (sw : IVec S16x128 32) : FVec F S32x128 .bf16 :=
  shapeCast S32x128
    (mulf (mulf (extf .bf16 (bitcastToFloat .fp8e4m3 (bitcast S32x128 8 c bitcasts_S8x128_w32_S32x128_w8)) bitsLt_fp8e4m3_bf16)
        (broadcast S32x128 (Scalar.ofBits .bf16 0x4280#16)))
      (bitcastToFloat .bf16 (bitcast S32x128 16 sw bitcasts_S16x128_w32_S32x128_w16)))
    shapeCasts_S32x128_S32x128

/-- Four rows of packed bytes to a word. -/
def words (v : Vec F S32x128 .i8) : IVec S8x128 32 := bitcast S8x128 32 v bitcasts_S32x128_w8_S8x128_w32

/-- Every lane's right neighbour, cyclically. -/
def rot (t : IVec S8x128 32) : IVec S8x128 32 := dynamicRotate 1 127#32 none t rotates_S8x128_d1

/-- Every lane's right neighbour, the last lane's being the first lane of the next tile. -/
def next (t u : IVec S8x128 32) : IVec S8x128 32 := select (cmpi .eq lane (broadcast S8x128 127#32)) (rot u) (rot t)

/-- An aligned tile: `o` is twice the tile's number, `b` its first byte in the group and `g` the group's first byte. -/
def alignedTile (o b g : BitVec 32) (own nxt : IVec S8x128 32) (s : Vec F S32x48 .i8) : FVec F S32x128 .bf16 :=
  values (widen (alignedCodes (mod3 (addi lane (broadcast S8x128 o))) own nxt))
    (gatherScales (scaleWords (F := F) s) (div24 (addi (addi lane (broadcast S8x128 b)) (broadcast S8x128 g))))

/-- The fourth tile of the group whose first byte is `g`. -/
def crossTile (g : BitVec 32) (v0 v1 v2 : Vec F S32x128 .i8) (s : Vec F S32x48 .i8) : FVec F S32x128 .bf16 :=
  values (widen (crossCodes (pick3 (mod3 lane) (words (F := F) v0) (words (F := F) v1) (words (F := F) v2))
      (pick3 (mod3 lane) (next (words (F := F) v0) (words (F := F) v1)) (next (words (F := F) v1) (words (F := F) v2)) (rot (words (F := F) v2)))))
    (gatherScales (scaleWords (F := F) s) (div24 (addi (addi lane (muli (broadcast S8x128 128#32) (mod3 lane))) (broadcast S8x128 g))))

/-- Tile `k` of the group whose first byte is `g`, from the group's three packed tiles and the rows' scale codes. -/
def tile (k : Fin 4) (g : BitVec 32) (v0 v1 v2 : Vec F S32x128 .i8) (s : Vec F S32x48 .i8) : FVec F S32x128 .bf16 :=
  match k with
  | 0 => alignedTile 0#32 0#32 g (words (F := F) v0) (next (words (F := F) v0) (words (F := F) v1)) s
  | 1 => alignedTile 2#32 128#32 g (words (F := F) v1) (next (words (F := F) v1) (words (F := F) v2)) s
  | 2 => alignedTile 4#32 256#32 g (words (F := F) v2) (rot (words (F := F) v2)) s
  | 3 => crossTile g v0 v1 v2 s

end Cert.Decode

end
-- ==== Proof.Lanes.lean ====
module

public import proofs.«01_k».proof.Proof.Tile
public import proofs.«01_k».proof.Proof.Bytes
public import Idealize.ShloMosaic.Lib.BitcastPair
public import Idealize.ShloMosaic.Lib.KernelVsHost
public import Idealize.ShloMosaic.Lib.Pipeline.Value

@[expose] public section

noncomputable section

namespace Cert.Decode

open Idealize.ShloMosaic Idealize.SL.Sem Cert.SliceIdeal Cert.SliceIdeal.Gen
open Idealize.ShloMosaic.ValueIdx (ix2)

variable {F : FTy → Type} [FloatOps F]

/-! ## The tile's vectors at an element -/

/-- The remainder of a lane's number plus twice the tile's. -/
theorem mod3_lane (o : Fin 6) (a : Fin 8) (l : Fin 128) :
    mod3 (addi lane (broadcast S8x128 (BitVec.ofNat 32 o.val))) (ix2 a l) = BitVec.ofNat 32 ((l.val + o.val) % 3) := by
  have h : ∀ (o : Fin 6) (l : Fin 128), mod3 (addi lane (broadcast S8x128 (BitVec.ofNat 32 o.val))) (ix2 (0 : Fin 8) l)
      = BitVec.ofNat 32 ((l.val + o.val) % 3) := by decide +kernel
  exact h o l

/-- The remainder of a lane's number. -/
theorem mod3_lane_zero (a : Fin 8) (l : Fin 128) : mod3 lane (ix2 a l) = BitVec.ofNat 32 (l.val % 3) := by
  have h : ∀ (l : Fin 128), mod3 lane (ix2 (0 : Fin 8) l) = BitVec.ofNat 32 (l.val % 3) := by decide +kernel
  exact h l

/-- An index that is no negative number is itself. -/
theorem wrap_eq (v : IVec S8x128 32) :
    wrap v = select (cmpi .slt v (broadcast S8x128 0#32)) (addi v (broadcast S8x128 128#32)) v :=
  shapeCast_shapeCast _ _ _

/-- The block's number of a byte of an aligned tile. -/
theorem div24_aligned (k G : Fin 3) (a : Fin 8) (l : Fin 128) :
    wrap (div24 (addi (addi lane (broadcast S8x128 (BitVec.ofNat 32 (128 * k.val)))) (broadcast S8x128 (BitVec.ofNat 32 (384 * G.val))))) (ix2 a l)
      = BitVec.ofNat 32 ((384 * G.val + 128 * k.val + l.val) / 24) := by
  rw [wrap_eq]
  have h : ∀ (G k : Fin 3) (l : Fin 128),
      (fun v : IVec S8x128 32 => select (cmpi .slt v (broadcast S8x128 0#32)) (addi v (broadcast S8x128 128#32)) v)
        (div24 (addi (addi lane (broadcast S8x128 (BitVec.ofNat 32 (128 * k.val)))) (broadcast S8x128 (BitVec.ofNat 32 (384 * G.val)))))
        (ix2 (0 : Fin 8) l)
      = BitVec.ofNat 32 ((384 * G.val + 128 * k.val + l.val) / 24) := by decide +kernel
  exact h G k l

/-- The block's number of a byte of a group's fourth tile. -/
theorem div24_cross (G : Fin 3) (a : Fin 8) (l : Fin 128) :
    wrap (div24 (addi (addi lane (muli (broadcast S8x128 128#32) (mod3 lane))) (broadcast S8x128 (BitVec.ofNat 32 (384 * G.val))))) (ix2 a l)
      = BitVec.ofNat 32 ((384 * G.val + 128 * (l.val % 3) + l.val) / 24) := by
  rw [wrap_eq]
  have h : ∀ (G : Fin 3) (l : Fin 128),
      (fun v : IVec S8x128 32 => select (cmpi .slt v (broadcast S8x128 0#32)) (addi v (broadcast S8x128 128#32)) v)
        (div24 (addi (addi lane (muli (broadcast S8x128 128#32) (mod3 lane))) (broadcast S8x128 (BitVec.ofNat 32 (384 * G.val)))))
        (ix2 (0 : Fin 8) l)
      = BitVec.ofNat 32 ((384 * G.val + 128 * (l.val % 3) + l.val) / 24) := by decide +kernel
  exact h G l

/-- A byte of a word of four rows is the row's byte. -/
theorem byteOf_words (v : Vec F S32x128 .i8) (a : Fin 8) (j : Fin 4) (l : Fin 128) (p : Fin 32) (hp : p.val = 4 * a.val + j.val) :
    byteOf (words (F := F) v (ix2 a l)) j = v (ix2 p l) := by
  apply BitVec.eq_of_getLsbD_eq
  intro i hi
  unfold byteOf words
  rw [BitVec.getLsbD_extractLsb', bitcast_8_32_getLsbD_ix2 (R := 32) (r := 8) (n := 128) v _ a l _ (by omega) p (by omega)]
  have : (8 * j.val + i) % 8 = i := by omega
  rw [this]; simp [hi]

/-- The right neighbour. -/
theorem rot_apply (t : IVec S8x128 32) (a : Fin 8) (l l' : Fin 128) (h : l'.val = (l.val + 1) % 128) : rot t (ix2 a l) = t (ix2 a l') := by
  unfold rot
  refine dynamicRotate_apply (s := S8x128) 1 127#32 t _ (ix2 a l) (ix2 a l') ?_
  intro b
  match b with
  | ⟨0, _⟩ => rfl
  | ⟨1, _⟩ =>
    show l'.val = (l.val + 128 - 127 % 128) % 128
    omega

/-- The right neighbour within the tile. -/
theorem next_apply_lt (t u : IVec S8x128 32) (a : Fin 8) (l l' : Fin 128) (h : l'.val = l.val + 1) : next t u (ix2 a l) = t (ix2 a l') := by
  have hb : cmpi .eq lane (broadcast S8x128 127#32) (ix2 a l) = 0#1 := by
    have hd : ∀ l : Fin 128, l.val < 127 → cmpi .eq lane (broadcast S8x128 127#32) (ix2 (0 : Fin 8) l) = 0#1 := by decide +kernel
    exact hd l (by omega)
  unfold next select
  rw [hb]
  exact rot_apply t a l l' (by omega)

/-- The last lane's right neighbour is the next tile's first lane. -/
theorem next_apply_last (t u : IVec S8x128 32) (a : Fin 8) : next t u (ix2 a (127 : Fin 128)) = u (ix2 a (0 : Fin 128)) := by
  have hb : cmpi .eq lane (broadcast S8x128 127#32) (ix2 a (127 : Fin 128)) = 1#1 := by
    have hd : cmpi .eq lane (broadcast S8x128 127#32) (ix2 (0 : Fin 8) (127 : Fin 128)) = 1#1 := by decide +kernel
    exact hd
  unfold next select
  rw [hb]
  exact rot_apply u a 127 0 rfl

/-- The codes of an aligned tile at a lane of residue 0, widened. -/
theorem aligned_at0 (r own nxt : IVec S8x128 32) (i : S8x128.Idx) (hr : r i = 0#32) :
    widen (alignedCodes r own nxt) i = widenW (((own i >>> 0) &&& 1061109567#32) ||| ((nxt i <<< 4) &&& 0#32)) := by
  simp only [widen, alignedCodes, ori, andi, shrui, shli, pick3, select, cmpi, broadcast, hr]
  rfl

/-- … of residue 1. -/
theorem aligned_at1 (r own nxt : IVec S8x128 32) (i : S8x128.Idx) (hr : r i = 1#32) :
    widen (alignedCodes r own nxt) i = widenW (((own i >>> 4) &&& 252645135#32) ||| ((nxt i <<< 4) &&& 808464432#32)) := by
  simp only [widen, alignedCodes, ori, andi, shrui, shli, pick3, select, cmpi, broadcast, hr]
  rfl

/-- … of residue 2. -/
theorem aligned_at2 (r own nxt : IVec S8x128 32) (i : S8x128.Idx) (hr : r i = 2#32) :
    widen (alignedCodes r own nxt) i = widenW (((own i >>> 2) &&& 1061109567#32) ||| ((nxt i <<< 4) &&& 0#32)) := by
  simp only [widen, alignedCodes, ori, andi, shrui, shli, pick3, select, cmpi, broadcast, hr]
  rfl

/-- The codes of the fourth tile at a lane, widened. -/
theorem cross_at (own nxt : IVec S8x128 32) (i : S8x128.Idx) :
    widen (crossCodes own nxt) i = widenW (((own i >>> 6) &&& 50529027#32) ||| ((nxt i <<< 2) &&& 1010580540#32)) := rfl

/-- The choice by residue at a lane. -/
theorem pick3_at {α : Type} (r : IVec S8x128 32) (x y z : S8x128.Idx → α) (i : S8x128.Idx) (n : Nat) (hn : n < 3)
    (hr : r i = BitVec.ofNat 32 n) : pick3 r x y z i = if n = 0 then x i else if n = 1 then y i else z i := by
  simp only [pick3, select, cmpi, broadcast, hr]
  interval_cases n <;> rfl

/-- A row's scale word at a block: half a word of two rows. -/
theorem scaleWords_half (s : Vec F S32x48 .i8) (q : Fin 16) (b : Fin 2) (c : Fin 128) (k : Fin 48) (hk : k.val = c.val)
    (p : Fin 32) (hp : p.val = 2 * q.val + b.val) :
    (scaleWords (F := F) s (ix2 q c)).extractLsb' (16 * b.val) 16
      = (((s (ix2 p k) : BitVec 8).setWidth 32) <<< 7).setWidth 16 := by
  apply BitVec.eq_of_getLsbD_eq
  intro i hi
  unfold scaleWords
  rw [BitVec.getLsbD_extractLsb', bitcast_getLsbD _ _ _ _ (by omega) (by decide)]
  have e1 : (S16x128.row (ix2 q c) * 32 + (16 * b.val + i)) / 16 = p.val := by
    show (q.val * 32 + (16 * b.val + i)) / 16 = p.val
    omega
  have e2 : (S16x128.row (ix2 q c) * 32 + (16 * b.val + i)) % 16 = i := by omega
  rw [e2, concatenate_pair_apply_left (t := S32x128) (s₁ := S32x48) (s₂ := S32x80) 1 _ _ _ _ rfl (ix2 p k) ?_]
  · have ht : trunci 16 (shli (extui 32 s natLt_8_32) (broadcast S32x48 7#32)) natLt_16_32 (ix2 p k)
        = (((s (ix2 p k) : BitVec 8).setWidth 32) <<< 7).setWidth 16 := rfl
    rw [ht]
    simp only [hi, decide_true, Bool.true_and]
  · intro x
    match x with
    | ⟨0, _⟩ => exact (e1.symm.trans (Shape.Bitcasts.srcIdx_row _ _ _ _ ⟨0, Nat.zero_lt_two⟩ rfl).symm)
    | ⟨1, _⟩ => exact hk.trans (Shape.Bitcasts.srcIdx_other (s := S32x128) bitcasts_S32x128_w16_S16x128_w32 (ix2 q c) _ _ ⟨1, Nat.one_lt_two⟩ (show ¬ (1 + 2 = 2) by decide)).symm

/-- The gathered scale words at a lane whose index is `c`. -/
theorem gatherScales_apply (sw : IVec S16x128 32) (idx : IVec S8x128 32) (c l : Fin 128)
    (h : ∀ a : Fin 8, wrap idx (ix2 a l) = BitVec.ofNat 32 c.val) (q : Fin 16) :
    gatherScales sw idx (ix2 q l) = sw (ix2 q c) := by
  unfold gatherScales
  by_cases hq : q.val < 8
  · rw [concatenate_pair_apply_left (t := S16x128) (s₁ := S8x128) (s₂ := S8x128) 0 _ _ _ _ rfl (ix2 (⟨q.val, hq⟩ : Fin 8) l) (fun x => by fin_cases x <;> rfl)]
    unfold dynamicGather
    refine extractStridedSlice_apply _ _ _ _ _ ?_
    intro x
    fin_cases x
    · simp
    · have := c.isLt
      simp [h]; exact (Nat.mod_eq_of_lt this).symm
  · have hq' := q.isLt
    rw [concatenate_pair_apply_right (t := S16x128) (s₁ := S8x128) (s₂ := S8x128) 0 _ _ _ _ rfl rfl (ix2 (⟨q.val - 8, by omega⟩ : Fin 8) l)
      (fun x => by fin_cases x <;> simp <;> rfl) (by show q.val - 8 + 8 = q.val; omega)]
    unfold dynamicGather
    refine extractStridedSlice_apply _ _ _ _ _ ?_
    intro x
    fin_cases x
    · simp; show q.val = 8 + (q.val - 8); omega
    · have := c.isLt
      simp [h]; exact (Nat.mod_eq_of_lt this).symm

/-- A tile's value at an element, from its code word and its scale word. -/
theorem values_apply (c : IVec S8x128 32) (sw : IVec S16x128 32) (p : Fin 32) (l : Fin 128) (a : Fin 8) (j : Fin 4) (q : Fin 16) (b : Fin 2)
    (ha : p.val = 4 * a.val + j.val) (hb : p.val = 2 * q.val + b.val) :
    values (F := Ideal) c sw (ix2 p l)
      = Ideal.e4m3fn (byteOf (c (ix2 a l)) j) * ((64 : ℝ) : EReal) * Ideal.ieee 8 7 ((sw (ix2 q l)).extractLsb' (16 * b.val) 16) := by
  have h1 : bitcast S32x128 8 c bitcasts_S8x128_w32_S32x128_w8 (ix2 p l) = byteOf (c (ix2 a l)) j := by
    apply BitVec.eq_of_getLsbD_eq
    intro i hi
    unfold byteOf
    rw [bitcast_getLsbD _ _ _ _ hi (by decide), BitVec.getLsbD_extractLsb']
    have e1 : (S32x128.row (ix2 p l) * 8 + i) / 32 = a.val := by
      show (p.val * 8 + i) / 32 = a.val; omega
    have e2 : (S32x128.row (ix2 p l) * 8 + i) % 32 = 8 * j.val + i := by
      show (p.val * 8 + i) % 32 = 8 * j.val + i; omega
    rw [e2]; simp [hi]
    congr 2
    funext x
    match x with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by decide))
  have h2 : bitcast S32x128 16 sw bitcasts_S16x128_w32_S32x128_w16 (ix2 p l) = (sw (ix2 q l)).extractLsb' (16 * b.val) 16 := by
    rw [bitcast_32_16]
    have e1 : S32x128.row (ix2 p l) / 2 = q.val := by show p.val / 2 = q.val; omega
    have e2 : S32x128.row (ix2 p l) % 2 = b.val := by show p.val % 2 = b.val; omega
    rw [e2]
    congr 1
    congr 1
    funext x
    match x with
    | ⟨0, _⟩ => exact Fin.ext ((Shape.Bitcasts.srcIdx_row _ _ _ _ ⟨0, Nat.zero_lt_two⟩ rfl).trans e1)
    | ⟨1, _⟩ => exact Fin.ext (Shape.Bitcasts.srcIdx_other _ _ _ _ ⟨1, Nat.one_lt_two⟩ (by decide))
  have h3 : Ideal.ieee 8 7 0x4280#16 = ((64 : ℝ) : EReal) := by
    have g1 : (0x4280#16).extractLsb' (8 + 7) 1 = 0#1 := by decide
    have g2 : ((0x4280#16).extractLsb' 7 8).toNat = 133 := by decide
    have g3 : ((0x4280#16).extractLsb' 0 7).toNat = 0 := by decide
    unfold Ideal.ieee
    simp only [g1, g2, g3]
    norm_num
  unfold values
  rw [shapeCast_self]
  show Ideal.e4m3fn (bitcast S32x128 8 c bitcasts_S8x128_w32_S32x128_w8 (ix2 p l)) * Ideal.ieee 8 7 0x4280#16
    * Ideal.ieee 8 7 (bitcast S32x128 16 sw bitcasts_S16x128_w32_S32x128_w16 (ix2 p l)) = _
  rw [h1, h2, h3]

end Cert.Decode
end
-- ==== Proof.TileValue.lean ====
module

public import proofs.«01_k».proof.Proof.Lanes

@[expose] public section

noncomputable section

namespace Cert.Decode

open Idealize.ShloMosaic Idealize.SL.Sem Cert.SliceIdeal Cert.SliceIdeal.Gen
open Idealize.ShloMosaic.ValueIdx (ix2)

/-! ## What a tile holds: the decoded channels, in the kernel's order -/

/-- Channel `ch` of a row, decoded from the row's packed bytes `B` and scale codes `S`: three bytes hold four codes, and
    32 channels share a scale. -/
def decoded (B S : Nat → BitVec 8) (ch : Nat) : EReal :=
  (codeReal (code (packed (B (3 * (ch / 4))) (B (3 * (ch / 4) + 1)) (B (3 * (ch / 4) + 2))) ⟨ch % 4, Nat.mod_lt _ (by decide)⟩) : EReal)
    * scaleOf (S (ch / 32))

/-- The channel of an aligned tile's byte `p`: its first, third or fourth code. -/
def alignedChan (p : Nat) : Nat := 4 * (p / 3) + (if p % 3 = 0 then 0 else if p % 3 = 1 then 2 else 3)

/-- The channel the kernel keeps in column `κ`. -/
def chan (κ : Nat) : Nat :=
  if κ % 512 / 128 < 3 then alignedChan (384 * (κ / 512) + κ % 512)
  else 4 * ((384 * (κ / 512) + 128 * (κ % 128 % 3) + κ % 128) / 3) + 1

/-- A tile's value at an element whose code word's byte is channel `ch`'s code and whose index is the channel's block. -/
theorem values_decoded (c : IVec S8x128 32) (s : Vec Ideal S32x48 .i8) (idx : IVec S8x128 32) (p : Fin 32) (l : Fin 128)
    (B S : Nat → BitVec 8) (ch : Nat) (hch : ch < 1536)
    (hc : byteOf (c (ix2 (⟨p.val / 4, by omega⟩ : Fin 8) l)) ⟨p.val % 4, by omega⟩
      = wide (code (packed (B (3 * (ch / 4))) (B (3 * (ch / 4) + 1)) (B (3 * (ch / 4) + 2))) ⟨ch % 4, Nat.mod_lt _ (by decide)⟩))
    (hidx : ∀ a : Fin 8, wrap idx (ix2 a l) = BitVec.ofNat 32 (ch / 32))
    (hS : ∀ b : Fin 48, s (ix2 p b) = S b.val) :
    values (F := Ideal) c (gatherScales (scaleWords (F := Ideal) s) idx) (ix2 p l) = decoded B S ch := by
  rw [values_apply _ _ p l ⟨p.val / 4, by omega⟩ ⟨p.val % 4, by omega⟩ ⟨p.val / 2, by omega⟩ ⟨p.val % 2, by omega⟩
    (by show p.val = 4 * (p.val / 4) + p.val % 4; omega) (by show p.val = 2 * (p.val / 2) + p.val % 2; omega), hc, e4m3_wide,
    gatherScales_apply _ _ ⟨ch / 32, by omega⟩ l hidx,
    scaleWords_half s _ _ _ (⟨ch / 32, by omega⟩ : Fin 48) rfl p (by show p.val = 2 * (p.val / 2) + p.val % 2; omega), bf16_scale, hS]
  rfl

/-- An aligned tile's code at a lane: `own` is byte `q` of the row and, where the code crosses into it, `nxt` byte `q + 1`. -/
theorem aligned_byte (r own nxt : IVec S8x128 32) (i : S8x128.Idx) (j : Fin 4) (B : Nat → BitVec 8) (q : Nat)
    (hr : r i = BitVec.ofNat 32 (q % 3)) (ho : byteOf (own i) j = B q) (hn : q % 3 = 1 → byteOf (nxt i) j = B (q + 1)) :
    byteOf (widen (alignedCodes r own nxt) i) j
      = wide (code (packed (B (3 * (alignedChan q / 4))) (B (3 * (alignedChan q / 4) + 1)) (B (3 * (alignedChan q / 4) + 2)))
          ⟨alignedChan q % 4, Nat.mod_lt _ (by decide)⟩) := by
  have hq : q % 3 = 0 ∨ q % 3 = 1 ∨ q % 3 = 2 := by omega
  rcases hq with h | h | h
  · have e : alignedChan q = 4 * (q / 3) + 0 := by unfold alignedChan; rw [if_pos h]
    have e1 : alignedChan q / 4 = q / 3 := by omega
    have e2 : (⟨alignedChan q % 4, Nat.mod_lt _ (by decide)⟩ : Fin 4) = 0 := Fin.ext (by show alignedChan q % 4 = 0; omega)
    rw [e2, e1, show 3 * (q / 3) = q by omega, ← ho, aligned_at0 _ _ _ _ (by rw [hr, h]), byte_code0]
  · have e : alignedChan q = 4 * (q / 3) + 2 := by unfold alignedChan; rw [if_neg (by omega), if_pos h]
    have e1 : alignedChan q / 4 = q / 3 := by omega
    have e2 : (⟨alignedChan q % 4, Nat.mod_lt _ (by decide)⟩ : Fin 4) = 2 := Fin.ext (by show alignedChan q % 4 = 2; omega)
    rw [e2, e1, show 3 * (q / 3) + 1 = q by omega, show 3 * (q / 3) + 2 = q + 1 by omega, ← ho, ← hn h,
      aligned_at1 _ _ _ _ (by rw [hr, h]), byte_code2]
  · have e : alignedChan q = 4 * (q / 3) + 3 := by unfold alignedChan; rw [if_neg (by omega), if_neg (by omega)]
    have e1 : alignedChan q / 4 = q / 3 := by omega
    have e2 : (⟨alignedChan q % 4, Nat.mod_lt _ (by decide)⟩ : Fin 4) = 3 := Fin.ext (by show alignedChan q % 4 = 3; omega)
    rw [e2, e1, show 3 * (q / 3) + 2 = q by omega, ← ho, aligned_at2 _ _ _ _ (by rw [hr, h]), byte_code3]

/-- The fourth tile's code at a lane: `own` is byte `q` of the row, a multiple of three, and `nxt` byte `q + 1`. -/
theorem cross_byte (own nxt : IVec S8x128 32) (i : S8x128.Idx) (j : Fin 4) (B : Nat → BitVec 8) (q : Nat) (hq : q % 3 = 0)
    (ho : byteOf (own i) j = B q) (hn : byteOf (nxt i) j = B (q + 1)) (ch : Nat) (hch : ch = 4 * (q / 3) + 1) :
    byteOf (widen (crossCodes own nxt) i) j
      = wide (code (packed (B (3 * (ch / 4))) (B (3 * (ch / 4) + 1)) (B (3 * (ch / 4) + 2))) ⟨ch % 4, Nat.mod_lt _ (by decide)⟩) := by
  have e1 : ch / 4 = q / 3 := by omega
  have e2 : (⟨ch % 4, Nat.mod_lt _ (by decide)⟩ : Fin 4) = 1 := Fin.ext (by show ch % 4 = 1; omega)
  rw [e2, e1, show 3 * (q / 3) = q by omega, ← ho, ← hn, cross_at, byte_code1]

/-- An aligned tile at an element. -/
theorem alignedTile_apply (k G : Fin 3) (own nxt : IVec S8x128 32) (s : Vec Ideal S32x48 .i8) (p : Fin 32) (l : Fin 128)
    (B S : Nat → BitVec 8)
    (ho : byteOf (own (ix2 (⟨p.val / 4, by omega⟩ : Fin 8) l)) ⟨p.val % 4, by omega⟩ = B (384 * G.val + 128 * k.val + l.val))
    (hn : (384 * G.val + 128 * k.val + l.val) % 3 = 1 →
      byteOf (nxt (ix2 (⟨p.val / 4, by omega⟩ : Fin 8) l)) ⟨p.val % 4, by omega⟩ = B (384 * G.val + 128 * k.val + l.val + 1))
    (hS : ∀ b : Fin 48, s (ix2 p b) = S b.val) :
    alignedTile (F := Ideal) (BitVec.ofNat 32 (2 * k.val)) (BitVec.ofNat 32 (128 * k.val)) (BitVec.ofNat 32 (384 * G.val)) own nxt s (ix2 p l)
      = decoded B S (chan (512 * G.val + 128 * k.val + l.val)) := by
  have hk := k.isLt
  have hG := G.isLt
  have hl := l.isLt
  have hc : chan (512 * G.val + 128 * k.val + l.val) = alignedChan (384 * G.val + 128 * k.val + l.val) := by
    unfold chan
    rw [if_pos (by omega)]
    congr 1; omega
  have hb : alignedChan (384 * G.val + 128 * k.val + l.val) / 32 = (384 * G.val + 128 * k.val + l.val) / 24 := by
    unfold alignedChan; split_ifs <;> omega
  rw [hc]
  unfold alignedTile
  refine values_decoded _ s _ p l B S _ ?_ (aligned_byte _ _ _ _ _ B _ ?_ ho hn) (fun a => ?_) hS
  · unfold alignedChan; split_ifs <;> omega
  · have := mod3_lane ⟨2 * k.val, by omega⟩ ⟨p.val / 4, by omega⟩ l
    rw [this]; congr 1; show (l.val + 2 * k.val) % 3 = _; omega
  · rw [div24_aligned, hb]

/-- Every tile at an element: the decoded channel of its column. -/
theorem tile_apply (k : Fin 4) (G : Fin 3) (v0 v1 v2 : Vec Ideal S32x128 .i8) (s : Vec Ideal S32x48 .i8) (p : Fin 32) (l : Fin 128)
    (B S : Nat → BitVec 8)
    (h0 : ∀ l : Fin 128, v0 (ix2 p l) = B (384 * G.val + l.val))
    (h1 : ∀ l : Fin 128, v1 (ix2 p l) = B (384 * G.val + 128 + l.val))
    (h2 : ∀ l : Fin 128, v2 (ix2 p l) = B (384 * G.val + 256 + l.val))
    (hS : ∀ b : Fin 48, s (ix2 p b) = S b.val) :
    tile (F := Ideal) k (BitVec.ofNat 32 (384 * G.val)) v0 v1 v2 s (ix2 p l)
      = decoded B S (chan (512 * G.val + 128 * k.val + l.val)) := by
  have hG := G.isLt
  have hl := l.isLt
  have hp : p.val = 4 * (⟨p.val / 4, by omega⟩ : Fin 8).val + (⟨p.val % 4, by omega⟩ : Fin 4).val := by
    show p.val = 4 * (p.val / 4) + p.val % 4; omega
  have w (v : Vec Ideal S32x128 .i8) (l : Fin 128) :
      byteOf (words (F := Ideal) v (ix2 (⟨p.val / 4, by omega⟩ : Fin 8) l)) ⟨p.val % 4, by omega⟩ = v (ix2 p l) :=
    byteOf_words v _ _ l p hp
  have nx (v u : Vec Ideal S32x128 .i8) (n : Nat) (hv : ∀ l : Fin 128, v (ix2 p l) = B (n + l.val))
      (hu : ∀ l : Fin 128, u (ix2 p l) = B (n + 128 + l.val)) (l : Fin 128) :
      byteOf (next (words (F := Ideal) v) (words (F := Ideal) u) (ix2 (⟨p.val / 4, by omega⟩ : Fin 8) l)) ⟨p.val % 4, by omega⟩ = B (n + l.val + 1) := by
    by_cases hlast : l.val = 127
    · have e : l = (127 : Fin 128) := Fin.ext hlast
      subst e
      rw [next_apply_last, w, hu]; rfl
    · rw [next_apply_lt _ _ _ l ⟨l.val + 1, by omega⟩ rfl, w, hv]; rfl
  have rt (n : Nat) (v : Vec Ideal S32x128 .i8) (hv : ∀ l : Fin 128, v (ix2 p l) = B (n + l.val)) (l : Fin 128) (hlast : l.val < 127) :
      byteOf (rot (words (F := Ideal) v) (ix2 (⟨p.val / 4, by omega⟩ : Fin 8) l)) ⟨p.val % 4, by omega⟩ = B (n + l.val + 1) := by
    rw [rot_apply _ _ l ⟨l.val + 1, by omega⟩ (by show l.val + 1 = (l.val + 1) % 128; omega), w, hv]; rfl
  fin_cases k
  · exact alignedTile_apply 0 G _ _ s p l B S ((w v0 l).trans (h0 l)) (fun _ => nx v0 v1 _ h0 h1 l) hS
  · exact alignedTile_apply 1 G _ _ s p l B S ((w v1 l).trans (h1 l)) (fun _ => nx v1 v2 _ h1 h2 l) hS
  · refine alignedTile_apply 2 G _ _ s p l B S ((w v2 l).trans (h2 l)) (fun h => rt _ v2 h2 l ?_) hS
    have h' : (384 * G.val + 128 * 2 + l.val) % 3 = 1 := h
    omega
  · have hq : (384 * G.val + 128 * (l.val % 3) + l.val) % 3 = 0 := by omega
    have hc : chan (512 * G.val + 128 * 3 + l.val) = 4 * ((384 * G.val + 128 * (l.val % 3) + l.val) / 3) + 1 := by
      unfold chan
      rw [if_neg (by omega)]
      have e1 : (512 * G.val + 128 * 3 + l.val) / 512 = G.val := by omega
      have e2 : (512 * G.val + 128 * 3 + l.val) % 128 = l.val := by omega
      rw [e1, e2]
    show crossTile (F := Ideal) _ v0 v1 v2 s (ix2 p l) = decoded B S (chan (512 * G.val + 128 * 3 + l.val))
    rw [hc]
    unfold crossTile
    have hm : l.val % 3 = 0 ∨ l.val % 3 = 1 ∨ l.val % 3 = 2 := by omega
    refine values_decoded _ s _ p l B S _ (by omega) (cross_byte _ _ _ _ B _ hq ?_ ?_ _ rfl) (fun a => ?_) hS
    · rw [pick3_at _ _ _ _ _ (l.val % 3) (by omega) (mod3_lane_zero _ l)]
      rcases hm with h | h | h <;> rw [h]
      · exact (w v0 l).trans (h0 l)
      · exact (w v1 l).trans (h1 l)
      · exact (w v2 l).trans (h2 l)
    · rw [pick3_at _ _ _ _ _ (l.val % 3) (by omega) (mod3_lane_zero _ l)]
      rcases hm with h | h | h <;> rw [h]
      · exact nx v0 v1 _ h0 h1 l
      · exact nx v1 v2 _ h1 h2 l
      · exact rt _ v2 h2 l (by omega)
    · rw [div24_cross]; congr 1; omega

end Cert.Decode
end
-- ==== Proof.Rows.lean ====
module

public import proofs.«01_k».proof.Proof.TileValue
public import Idealize.ShloMosaic.Lib.Pipeline.FrameBody
public import Idealize.ShloMosaic.Lib.Pipeline.ReadBack

@[expose] public section

noncomputable section

namespace Cert.Decode

open Idealize.ShloMosaic Idealize.SL.Sem Cert.SliceIdeal Cert.SliceIdeal.Gen
open Idealize.ShloMosaic.ValueIdx (ix2)

/-! ## Decoded rows, and the stored tiles as blocks of them -/

/-- A row of bytes, by the byte's number. -/
def rowOf {N M : Nat} (x : (⟨2, ![N, M]⟩ : Shape).Idx → BitVec 8) (r : Fin N) : Nat → BitVec 8 :=
  fun n => if h : n < M then x (ix2 r ⟨n, h⟩) else 0

/-- Rows of packed bytes decoded, the channels in the kernel's order. -/
def decodeRows {N : Nat} (x : (⟨2, ![N, 1152]⟩ : Shape).Idx → BitVec 8) (s : (⟨2, ![N, 48]⟩ : Shape).Idx → BitVec 8) :
    (⟨2, ![N, 1536]⟩ : Shape).Idx → EReal :=
  fun i => decoded (rowOf x (i 0)) (rowOf s (i 0)) (chan (i 1).val)

/-- A tile from 32 loaded rows is the block of the decoded rows it is stored at. -/
theorem tile_piece {N : Nat} (x : (⟨2, ![N, 1152]⟩ : Shape).Idx → BitVec 8) (s : (⟨2, ![N, 48]⟩ : Shape).Idx → BitVec 8)
    (k : Fin 4) (G : Fin 3) (r : Nat) {o0 o1 o2 oS o : Fin 2 → Nat}
    (h0 : o0 = ![r, 384 * G.val]) (h1 : o1 = ![r, 384 * G.val + 128]) (h2 : o2 = ![r, 384 * G.val + 256]) (hS : oS = ![r, 0])
    (ho : o = ![r, 512 * G.val + 128 * k.val])
    (b0 : ∀ a, o0 a + S32x128.size a ≤ (⟨2, ![N, 1152]⟩ : Shape).size a) (b1 : ∀ a, o1 a + S32x128.size a ≤ (⟨2, ![N, 1152]⟩ : Shape).size a)
    (b2 : ∀ a, o2 a + S32x128.size a ≤ (⟨2, ![N, 1152]⟩ : Shape).size a) (bS : ∀ a, oS a + S32x48.size a ≤ (⟨2, ![N, 48]⟩ : Shape).size a)
    (b : ∀ a, o a + S32x128.size a ≤ (⟨2, ![N, 1536]⟩ : Shape).size a) (y : S32x128.Idx) :
    tile (F := Ideal) k (BitVec.ofNat 32 (384 * G.val))
        (View.ld (Val := Elt Ideal) (e' := .i8) x (Rect.unit (s := ⟨2, ![N, 1152]⟩) o0 S32x128.size b0))
        (View.ld (Val := Elt Ideal) (e' := .i8) x (Rect.unit (s := ⟨2, ![N, 1152]⟩) o1 S32x128.size b1))
        (View.ld (Val := Elt Ideal) (e' := .i8) x (Rect.unit (s := ⟨2, ![N, 1152]⟩) o2 S32x128.size b2))
        (View.ld (Val := Elt Ideal) (e' := .i8) s (Rect.unit (s := ⟨2, ![N, 48]⟩) oS S32x48.size bS)) y
      = decodeRows x s ((Rect.unit (s := ⟨2, ![N, 1536]⟩) o S32x128.size b).emb y) := by
  subst h0 h1 h2 hS ho
  have hG := G.isLt
  have hk := k.isLt
  have hN : r + 32 ≤ N := b 0
  have hp : (y 0).val < 32 := (y 0).isLt
  have hl : (y 1).val < 128 := (y 1).isLt
  have ey : y = ix2 (⟨(y 0).val, hp⟩ : Fin 32) (⟨(y 1).val, hl⟩ : Fin 128) := by
    funext a; fin_cases a <;> rfl
  have ld1 (c : Nat) (bb : ∀ a, (![r, c] : Fin 2 → Nat) a + S32x128.size a ≤ (⟨2, ![N, 1152]⟩ : Shape).size a) (p : Fin 32) (l : Fin 128) :
      View.ld (Val := Elt Ideal) (e' := .i8) x (Rect.unit (s := ⟨2, ![N, 1152]⟩) ![r, c] S32x128.size bb) (ix2 p l)
        = rowOf x ⟨r + p.val, by omega⟩ (c + l.val) := by
    have hc : c + 128 ≤ 1152 := bb 1
    unfold rowOf
    rw [dif_pos (by omega)]
    refine congrArg x ?_
    funext a; apply Fin.ext
    fin_cases a
    · show r + 1 * p.val = r + p.val; omega
    · show c + 1 * l.val = c + l.val; omega
  rw [ey]
  refine (tile_apply k G _ _ _ _ ⟨(y 0).val, hp⟩ ⟨(y 1).val, hl⟩
    (rowOf x ⟨r + (y 0).val, by omega⟩) (rowOf s ⟨r + (y 0).val, by omega⟩)
    ?_ ?_ ?_ (fun b => ?_)).trans ?_
  · first | exact fun l => ld1 _ b0 _ l | (intro l; exact (ld1 _ b0 _ l).trans (by congr 1; omega))
  · first | exact fun l => ld1 _ b1 _ l | (intro l; exact (ld1 _ b1 _ l).trans (by congr 1; omega))
  · first | exact fun l => ld1 _ b2 _ l | (intro l; exact (ld1 _ b2 _ l).trans (by congr 1; omega))
  · unfold rowOf
    rw [dif_pos b.isLt]
    refine congrArg s ?_
    funext a; apply Fin.ext
    fin_cases a
    · show r + 1 * (y 0).val = r + (y 0).val; omega
    · show 0 + 1 * b.val = b.val; omega
  · unfold decodeRows
    congr 1
    · congr 1; apply Fin.ext; show r + (y 0).val = r + 1 * (y 0).val; omega
    · congr 1; apply Fin.ext; show r + (y 0).val = r + 1 * (y 0).val; omega
    · congr 1; show 512 * G.val + 128 * k.val + (y 1).val = 512 * G.val + 128 * k.val + 1 * (y 1).val; omega

/-- Blocks of one array appended. -/
theorem piecesOf_append {Val : EltTy → Type} {s : Shape} {e : EltTy} (G : s.Idx → Val e) :
    ∀ (L L' : List (View.Piece Val s e)), View.PiecesOf G L → View.PiecesOf G L' → View.PiecesOf G (L ++ L')
  | [], _, _, h' => h'
  | _ :: L, L', h, h' => ⟨h.1, piecesOf_append G L L' h.2 h'⟩

end Cert.Decode
end
-- ==== Proof.PlainRows.lean ====
module

public import proofs.«01_k».proof.Proof.Plain
public import proofs.«01_k».proof.Proof.Rows
public import Idealize.ShloMosaic.Lib.Pipeline.Value

@[expose] public section

noncomputable section

namespace Cert.Decode

open Idealize.ShloMosaic

variable {N : Nat}

/-! ## The reference's layout of a row: groups of three bytes, blocks of 32 channels -/

/-- A coordinate read along an axis that a broadcast may stretch. -/
theorem unit_or {i k : Nat} (h : i < k) : i = if k = 1 then 0 else i := by split <;> omega

/-- Bytes in groups of three. -/
theorem bytes_at (x : (⟨2, ![N, 1152]⟩ : Shape).Idx → BitVec 8) (hw : 8 < 32)
    (h1 : (⟨2, ![N, 1152]⟩ : Shape).ShapeCasts ⟨3, ![N, 384, 3]⟩) (off : Fin 3 → Nat) (t : Nat) (ho : off = ![0, 0, t])
    (h2 : (⟨3, ![N, 384, 3]⟩ : Shape).Slices off ⟨3, ![N, 384, 1]⟩) (h3 : (⟨3, ![N, 384, 1]⟩ : Shape).ShapeCasts ⟨2, ![N, 384]⟩)
    (ht : t < 3) (n : Fin N) (g : Fin 384) :
    shapeCast ⟨2, ![N, 384]⟩ (extractStridedSlice ⟨3, ![N, 384, 1]⟩ off (shapeCast ⟨3, ![N, 384, 3]⟩ (extui 32 x hw) h1) h2) h3 (ValueIdx.ix2 n g)
      = (rowOf x n (3 * g.val + t)).setWidth 32 := by
  subst ho
  have hg := g.isLt
  rw [shapeCast_apply _ h3 (ValueIdx.ix2 n g) (ValueIdx.ix3 n g (0 : Fin 1)) (by rw [Shape.rowMajor_val_two, Shape.rowMajor_val_three]; show (n.val * 384 + g.val) * 1 + 0 = n.val * 384 + g.val; omega),
    extractStridedSlice_apply _ _ h2 _ (ValueIdx.ix3 n g (⟨t, ht⟩ : Fin 3)) (by intro a; fin_cases a <;> simp),
    shapeCast_apply _ h1 _ (ValueIdx.ix2 n (⟨3 * g.val + t, by omega⟩ : Fin 1152)) (by rw [Shape.rowMajor_val_two, Shape.rowMajor_val_three]; show n.val * 1152 + (3 * g.val + t) = (n.val * 384 + g.val) * 3 + t; omega)]
  unfold rowOf
  rw [dif_pos (by omega)]
  rfl

/-- A group's word spread over its four codes. -/
theorem spread_at {α : Type} (v : (⟨2, ![N, 384]⟩ : Shape).Idx → α)
    (h1 : (⟨2, ![N, 384]⟩ : Shape).BroadcastsInDim ⟨3, ![N, 384, 1]⟩ ![0, 1])
    (h2 : (⟨3, ![N, 384, 1]⟩ : Shape).BroadcastsInDim ⟨3, ![N, 384, 4]⟩ ![0, 1, 2]) (n : Fin N) (g : Fin 384) (f : Fin 4) :
    broadcastInDim ⟨3, ![N, 384, 4]⟩ ![0, 1, 2] h2 (broadcastInDim ⟨3, ![N, 384, 1]⟩ ![0, 1] h1 v) (ValueIdx.ix3 n g f) = v (ValueIdx.ix2 n g) := by
  have hn := n.isLt
  rw [broadcastInDim_apply _ h2 _ _ (ValueIdx.ix3 n g (0 : Fin 1)) (by intro a; fin_cases a <;> first | rfl | exact unit_or n.isLt),
    broadcastInDim_apply _ h1 _ _ (ValueIdx.ix2 n g) (by intro a; fin_cases a <;> first | rfl | exact unit_or n.isLt)]

/-- The four shift amounts. -/
theorem shifts_at {α : Type} (v : (⟨1, ![4]⟩ : Shape).Idx → α)
    (h1 : (⟨1, ![4]⟩ : Shape).BroadcastsInDim ⟨3, ![1, 1, 4]⟩ ![2])
    (h2 : (⟨3, ![1, 1, 4]⟩ : Shape).BroadcastsInDim ⟨3, ![N, 384, 4]⟩ ![0, 1, 2]) (n : Fin N) (g : Fin 384) (f : Fin 4) :
    broadcastInDim ⟨3, ![N, 384, 4]⟩ ![0, 1, 2] h2 (broadcastInDim ⟨3, ![1, 1, 4]⟩ ![2] h1 v) (ValueIdx.ix3 n g f) = v (ValueIdx.ix1 f) := by
  rw [broadcastInDim_apply _ h2 _ _ (ValueIdx.ix3 (0 : Fin 1) (0 : Fin 1) f) (by intro a; fin_cases a <;> rfl),
    broadcastInDim_apply _ h1 _ _ (ValueIdx.ix1 f) (by intro a; fin_cases a; rfl)]

/-- Codes by groups of four, times scales by blocks of 32, as rows of channels. -/
theorem scaled_at (v : FVec Ideal ⟨3, ![N, 384, 4]⟩ .bf16) (s : FVec Ideal ⟨2, ![N, 48]⟩ .bf16)
    (h1 : (⟨3, ![N, 384, 4]⟩ : Shape).ShapeCasts ⟨3, ![N, 48, 32]⟩) (h2 : (⟨2, ![N, 48]⟩ : Shape).BroadcastsInDim ⟨3, ![N, 48, 1]⟩ ![0, 1])
    (h3 : (⟨3, ![N, 48, 1]⟩ : Shape).BroadcastsInDim ⟨3, ![N, 48, 32]⟩ ![0, 1, 2]) (h4 : (⟨3, ![N, 48, 32]⟩ : Shape).ShapeCasts ⟨2, ![N, 1536]⟩)
    (n : Fin N) (ch : Fin 1536) :
    shapeCast ⟨2, ![N, 1536]⟩ (mulf (shapeCast ⟨3, ![N, 48, 32]⟩ v h1)
        (broadcastInDim ⟨3, ![N, 48, 32]⟩ ![0, 1, 2] h3 (broadcastInDim ⟨3, ![N, 48, 1]⟩ ![0, 1] h2 s))) h4 (ValueIdx.ix2 n ch)
      = (v (ValueIdx.ix3 n (⟨ch.val / 4, by omega⟩ : Fin 384) (⟨ch.val % 4, by omega⟩ : Fin 4)) : EReal) * s (ValueIdx.ix2 n (⟨ch.val / 32, by omega⟩ : Fin 48)) := by
  have hc := ch.isLt
  have hn := n.isLt
  rw [shapeCast_apply _ h4 (ValueIdx.ix2 n ch) (ValueIdx.ix3 n (⟨ch.val / 32, by omega⟩ : Fin 48) (⟨ch.val % 32, by omega⟩ : Fin 32)) (by rw [Shape.rowMajor_val_two, Shape.rowMajor_val_three]; show (n.val * 48 + ch.val / 32) * 32 + ch.val % 32 = n.val * 1536 + ch.val; omega)]
  refine congrArg₂ (fun a b : EReal => a * b) ?_ ?_
  · exact shapeCast_apply _ h1 _ _ (by rw [Shape.rowMajor_val_three, Shape.rowMajor_val_three]; show (n.val * 384 + ch.val / 4) * 4 + ch.val % 4 = (n.val * 48 + ch.val / 32) * 32 + ch.val % 32; omega)
  · rw [broadcastInDim_apply _ h3 _ _ (ValueIdx.ix3 n (⟨ch.val / 32, by omega⟩ : Fin 48) (0 : Fin 1)) (by intro a; fin_cases a <;> first | rfl | exact unit_or n.isLt),
      broadcastInDim_apply _ h2 _ _ (ValueIdx.ix2 n (⟨ch.val / 32, by omega⟩ : Fin 48)) (by intro a; fin_cases a <;> first | rfl | exact unit_or n.isLt)]

/-- Numbers and scales that are those of the row's codes and scale codes make the decoded row. -/
theorem scaled_decoded (x : (⟨2, ![N, 1152]⟩ : Shape).Idx → BitVec 8) (k : (⟨2, ![N, 48]⟩ : Shape).Idx → BitVec 8)
    (v : FVec Ideal ⟨3, ![N, 384, 4]⟩ .bf16) (s : FVec Ideal ⟨2, ![N, 48]⟩ .bf16)
    (h1 : (⟨3, ![N, 384, 4]⟩ : Shape).ShapeCasts ⟨3, ![N, 48, 32]⟩) (h2 : (⟨2, ![N, 48]⟩ : Shape).BroadcastsInDim ⟨3, ![N, 48, 1]⟩ ![0, 1])
    (h3 : (⟨3, ![N, 48, 1]⟩ : Shape).BroadcastsInDim ⟨3, ![N, 48, 32]⟩ ![0, 1, 2]) (h4 : (⟨3, ![N, 48, 32]⟩ : Shape).ShapeCasts ⟨2, ![N, 1536]⟩)
    (hv : ∀ (n : Fin N) (g : Fin 384) (f : Fin 4), v (ValueIdx.ix3 n g f)
      = (codeReal (code (packed (rowOf x n (3 * g.val)) (rowOf x n (3 * g.val + 1)) (rowOf x n (3 * g.val + 2))) f) : EReal))
    (hs : ∀ (n : Fin N) (b : Fin 48), s (ValueIdx.ix2 n b) = scaleOf (k (ValueIdx.ix2 n b))) (n : Fin N) (ch : Fin 1536) :
    shapeCast ⟨2, ![N, 1536]⟩ (mulf (shapeCast ⟨3, ![N, 48, 32]⟩ v h1)
        (broadcastInDim ⟨3, ![N, 48, 32]⟩ ![0, 1, 2] h3 (broadcastInDim ⟨3, ![N, 48, 1]⟩ ![0, 1] h2 s))) h4 (ValueIdx.ix2 n ch)
      = decoded (rowOf x n) (rowOf k n) ch.val := by
  have hc := ch.isLt
  refine (scaled_at v s h1 h2 h3 h4 n ch).trans ?_
  rw [hv, hs]
  unfold decoded
  congr 2
  unfold rowOf
  rw [dif_pos (by omega)]

end Cert.Decode
end
-- ==== Proof.Runs.lean ====
module

public import proofs.«01_k».proof.Proof.Rows
public import proofs.«01_k».proof.Proof.Gen.SliceIdeal.Frame.RunA
public import proofs.«01_k».proof.Proof.Gen.SliceIdeal.Frame.RunB

@[expose] public section

set_option maxRecDepth 65536
set_option maxHeartbeats 4000000

noncomputable section

namespace Cert.Decode

open Idealize.ShloMosaic Idealize.ShloMosaic.TcCoe Idealize.SL.Sem Cert.SliceIdeal Cert.SliceIdeal.Gen

/-! ## What every step stores of its 512 weight rows -/

variable {F : FTy → Type} [FloatOps F]

/-- A block of 32 rows at row `r`, column `c`, lies inside. -/
theorem fits {N M w : Nat} {r : Nat} (c : Nat) (hr : r + 32 ≤ N) (hc : c + w ≤ M) :
    ∀ a, (![r, c] : Fin 2 → Nat) a + (![32, w] : Fin 2 → Nat) a ≤ (⟨2, ![N, M]⟩ : Shape).size a := by
  intro a; fin_cases a
  · exact hr
  · exact hc

/-- The twelve tiles of the 32 rows from row `r`, as stored, last first. -/
def chunk (x : Vec F S512x1152 .i8) (s : Vec F S512x48 .i8) (r : Nat) (hr : r + 32 ≤ 512) : List (View.Piece (Elt F) S512x1536 .bf16) :=
  [⟨Rect.unit (s := S512x1536) ![r, 1408] S32x128.size (fits _ hr (by decide)),
      tile (F := F) 3 768#32 (View.ld x (Rect.unit (s := S512x1152) ![r, 768] S32x128.size (fits _ hr (by decide))))
        (View.ld x (Rect.unit (s := S512x1152) ![r, 896] S32x128.size (fits _ hr (by decide))))
        (View.ld x (Rect.unit (s := S512x1152) ![r, 1024] S32x128.size (fits _ hr (by decide))))
        (View.ld s (Rect.unit (s := S512x48) ![r, 0] S32x48.size (fits _ hr (by decide))))⟩,
    ⟨Rect.unit (s := S512x1536) ![r, 1280] S32x128.size (fits _ hr (by decide)),
      tile (F := F) 2 768#32 (View.ld x (Rect.unit (s := S512x1152) ![r, 768] S32x128.size (fits _ hr (by decide))))
        (View.ld x (Rect.unit (s := S512x1152) ![r, 896] S32x128.size (fits _ hr (by decide))))
        (View.ld x (Rect.unit (s := S512x1152) ![r, 1024] S32x128.size (fits _ hr (by decide))))
        (View.ld s (Rect.unit (s := S512x48) ![r, 0] S32x48.size (fits _ hr (by decide))))⟩,
    ⟨Rect.unit (s := S512x1536) ![r, 1152] S32x128.size (fits _ hr (by decide)),
      tile (F := F) 1 768#32 (View.ld x (Rect.unit (s := S512x1152) ![r, 768] S32x128.size (fits _ hr (by decide))))
        (View.ld x (Rect.unit (s := S512x1152) ![r, 896] S32x128.size (fits _ hr (by decide))))
        (View.ld x (Rect.unit (s := S512x1152) ![r, 1024] S32x128.size (fits _ hr (by decide))))
        (View.ld s (Rect.unit (s := S512x48) ![r, 0] S32x48.size (fits _ hr (by decide))))⟩,
    ⟨Rect.unit (s := S512x1536) ![r, 1024] S32x128.size (fits _ hr (by decide)),
      tile (F := F) 0 768#32 (View.ld x (Rect.unit (s := S512x1152) ![r, 768] S32x128.size (fits _ hr (by decide))))
        (View.ld x (Rect.unit (s := S512x1152) ![r, 896] S32x128.size (fits _ hr (by decide))))
        (View.ld x (Rect.unit (s := S512x1152) ![r, 1024] S32x128.size (fits _ hr (by decide))))
        (View.ld s (Rect.unit (s := S512x48) ![r, 0] S32x48.size (fits _ hr (by decide))))⟩,
    ⟨Rect.unit (s := S512x1536) ![r, 896] S32x128.size (fits _ hr (by decide)),
      tile (F := F) 3 384#32 (View.ld x (Rect.unit (s := S512x1152) ![r, 384] S32x128.size (fits _ hr (by decide))))
        (View.ld x (Rect.unit (s := S512x1152) ![r, 512] S32x128.size (fits _ hr (by decide))))
        (View.ld x (Rect.unit (s := S512x1152) ![r, 640] S32x128.size (fits _ hr (by decide))))
        (View.ld s (Rect.unit (s := S512x48) ![r, 0] S32x48.size (fits _ hr (by decide))))⟩,
    ⟨Rect.unit (s := S512x1536) ![r, 768] S32x128.size (fits _ hr (by decide)),
      tile (F := F) 2 384#32 (View.ld x (Rect.unit (s := S512x1152) ![r, 384] S32x128.size (fits _ hr (by decide))))
        (View.ld x (Rect.unit (s := S512x1152) ![r, 512] S32x128.size (fits _ hr (by decide))))
        (View.ld x (Rect.unit (s := S512x1152) ![r, 640] S32x128.size (fits _ hr (by decide))))
        (View.ld s (Rect.unit (s := S512x48) ![r, 0] S32x48.size (fits _ hr (by decide))))⟩,
    ⟨Rect.unit (s := S512x1536) ![r, 640] S32x128.size (fits _ hr (by decide)),
      tile (F := F) 1 384#32 (View.ld x (Rect.unit (s := S512x1152) ![r, 384] S32x128.size (fits _ hr (by decide))))
        (View.ld x (Rect.unit (s := S512x1152) ![r, 512] S32x128.size (fits _ hr (by decide))))
        (View.ld x (Rect.unit (s := S512x1152) ![r, 640] S32x128.size (fits _ hr (by decide))))
        (View.ld s (Rect.unit (s := S512x48) ![r, 0] S32x48.size (fits _ hr (by decide))))⟩,
    ⟨Rect.unit (s := S512x1536) ![r, 512] S32x128.size (fits _ hr (by decide)),
      tile (F := F) 0 384#32 (View.ld x (Rect.unit (s := S512x1152) ![r, 384] S32x128.size (fits _ hr (by decide))))
        (View.ld x (Rect.unit (s := S512x1152) ![r, 512] S32x128.size (fits _ hr (by decide))))
        (View.ld x (Rect.unit (s := S512x1152) ![r, 640] S32x128.size (fits _ hr (by decide))))
        (View.ld s (Rect.unit (s := S512x48) ![r, 0] S32x48.size (fits _ hr (by decide))))⟩,
    ⟨Rect.unit (s := S512x1536) ![r, 384] S32x128.size (fits _ hr (by decide)),
      tile (F := F) 3 0#32 (View.ld x (Rect.unit (s := S512x1152) ![r, 0] S32x128.size (fits _ hr (by decide))))
        (View.ld x (Rect.unit (s := S512x1152) ![r, 128] S32x128.size (fits _ hr (by decide))))
        (View.ld x (Rect.unit (s := S512x1152) ![r, 256] S32x128.size (fits _ hr (by decide))))
        (View.ld s (Rect.unit (s := S512x48) ![r, 0] S32x48.size (fits _ hr (by decide))))⟩,
    ⟨Rect.unit (s := S512x1536) ![r, 256] S32x128.size (fits _ hr (by decide)),
      tile (F := F) 2 0#32 (View.ld x (Rect.unit (s := S512x1152) ![r, 0] S32x128.size (fits _ hr (by decide))))
        (View.ld x (Rect.unit (s := S512x1152) ![r, 128] S32x128.size (fits _ hr (by decide))))
        (View.ld x (Rect.unit (s := S512x1152) ![r, 256] S32x128.size (fits _ hr (by decide))))
        (View.ld s (Rect.unit (s := S512x48) ![r, 0] S32x48.size (fits _ hr (by decide))))⟩,
    ⟨Rect.unit (s := S512x1536) ![r, 128] S32x128.size (fits _ hr (by decide)),
      tile (F := F) 1 0#32 (View.ld x (Rect.unit (s := S512x1152) ![r, 0] S32x128.size (fits _ hr (by decide))))
        (View.ld x (Rect.unit (s := S512x1152) ![r, 128] S32x128.size (fits _ hr (by decide))))
        (View.ld x (Rect.unit (s := S512x1152) ![r, 256] S32x128.size (fits _ hr (by decide))))
        (View.ld s (Rect.unit (s := S512x48) ![r, 0] S32x48.size (fits _ hr (by decide))))⟩,
    ⟨Rect.unit (s := S512x1536) ![r, 0] S32x128.size (fits _ hr (by decide)),
      tile (F := F) 0 0#32 (View.ld x (Rect.unit (s := S512x1152) ![r, 0] S32x128.size (fits _ hr (by decide))))
        (View.ld x (Rect.unit (s := S512x1152) ![r, 128] S32x128.size (fits _ hr (by decide))))
        (View.ld x (Rect.unit (s := S512x1152) ![r, 256] S32x128.size (fits _ hr (by decide))))
        (View.ld s (Rect.unit (s := S512x48) ![r, 0] S32x48.size (fits _ hr (by decide))))⟩]

/-- The tiles of the first `32 * n` rows, as stored, last first. -/
def chunks (x : Vec F S512x1152 .i8) (s : Vec F S512x48 .i8) : (n : Nat) → 32 * n ≤ 512 → List (View.Piece (Elt F) S512x1536 .bf16)
  | 0, _ => []
  | n + 1, h => chunk x s (32 * n) h ++ chunks x s n (Nat.le_trans (Nat.mul_le_mul_left 32 (Nat.le_succ n)) h)

/-- They are blocks of the decoded rows. -/
theorem chunk_pieces (x : Vec Ideal S512x1152 .i8) (s : Vec Ideal S512x48 .i8) (r : Nat) (hr : r + 32 ≤ 512) :
    View.PiecesOf (decodeRows x s) (chunk x s r hr) :=
  ⟨tile_piece _ _ 3 2 r rfl rfl rfl rfl rfl (fits _ hr (by decide)) (fits _ hr (by decide)) (fits _ hr (by decide)) (fits _ hr (by decide)) (fits _ hr (by decide)),
    tile_piece _ _ 2 2 r rfl rfl rfl rfl rfl (fits _ hr (by decide)) (fits _ hr (by decide)) (fits _ hr (by decide)) (fits _ hr (by decide)) (fits _ hr (by decide)),
    tile_piece _ _ 1 2 r rfl rfl rfl rfl rfl (fits _ hr (by decide)) (fits _ hr (by decide)) (fits _ hr (by decide)) (fits _ hr (by decide)) (fits _ hr (by decide)),
    tile_piece _ _ 0 2 r rfl rfl rfl rfl rfl (fits _ hr (by decide)) (fits _ hr (by decide)) (fits _ hr (by decide)) (fits _ hr (by decide)) (fits _ hr (by decide)),
    tile_piece _ _ 3 1 r rfl rfl rfl rfl rfl (fits _ hr (by decide)) (fits _ hr (by decide)) (fits _ hr (by decide)) (fits _ hr (by decide)) (fits _ hr (by decide)),
    tile_piece _ _ 2 1 r rfl rfl rfl rfl rfl (fits _ hr (by decide)) (fits _ hr (by decide)) (fits _ hr (by decide)) (fits _ hr (by decide)) (fits _ hr (by decide)),
    tile_piece _ _ 1 1 r rfl rfl rfl rfl rfl (fits _ hr (by decide)) (fits _ hr (by decide)) (fits _ hr (by decide)) (fits _ hr (by decide)) (fits _ hr (by decide)),
    tile_piece _ _ 0 1 r rfl rfl rfl rfl rfl (fits _ hr (by decide)) (fits _ hr (by decide)) (fits _ hr (by decide)) (fits _ hr (by decide)) (fits _ hr (by decide)),
    tile_piece _ _ 3 0 r rfl rfl rfl rfl rfl (fits _ hr (by decide)) (fits _ hr (by decide)) (fits _ hr (by decide)) (fits _ hr (by decide)) (fits _ hr (by decide)),
    tile_piece _ _ 2 0 r rfl rfl rfl rfl rfl (fits _ hr (by decide)) (fits _ hr (by decide)) (fits _ hr (by decide)) (fits _ hr (by decide)) (fits _ hr (by decide)),
    tile_piece _ _ 1 0 r rfl rfl rfl rfl rfl (fits _ hr (by decide)) (fits _ hr (by decide)) (fits _ hr (by decide)) (fits _ hr (by decide)) (fits _ hr (by decide)),
    tile_piece _ _ 0 0 r rfl rfl rfl rfl rfl (fits _ hr (by decide)) (fits _ hr (by decide)) (fits _ hr (by decide)) (fits _ hr (by decide)) (fits _ hr (by decide)), trivial⟩

/-- So are those of any number of rows. -/
theorem chunks_pieces (x : Vec Ideal S512x1152 .i8) (s : Vec Ideal S512x48 .i8) :
    ∀ n h, View.PiecesOf (decodeRows x s) (chunks x s n h)
  | 0, _ => trivial
  | n + 1, h => piecesOf_append _ _ _ (chunk_pieces x s (32 * n) h) (chunks_pieces x s n _)

/-- The weight stores of the first step. -/
theorem runA_weights (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec F S1280x1152 .i8) (x1 : Vec F S1280x48 .i8) (x2 : Vec F S512x1152 .i8) (x3 : Vec F S512x48 .i8) :
    (kernelRun0_A (F := F) c i arg1 harg1 arg2 harg2 arg3 harg3 arg4 harg4 arg5 harg5 arg6 harg6 arg7 harg7 hc0 x0 x1 x2 x3).2.2.1 =
      chunks (arg3.view.read (Elt F) (harg3.unread x2)) (arg4.view.read (Elt F) (harg4.unread x3)) 16 (by decide) := by
  sl_kernel_rfl

/-- The weight stores of a later step. -/
theorem runB_weights (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : ¬cond0_0 i) (x0 : Vec F S1280x1152 .i8) (x1 : Vec F S1280x48 .i8) (x2 : Vec F S512x1152 .i8) (x3 : Vec F S512x48 .i8) (xs0 : Vec F S1280x1536 .bf16) :
    (kernelRun0_B (F := F) c i arg1 harg1 arg2 harg2 arg3 harg3 arg4 harg4 arg5 harg5 arg6 harg6 arg7 harg7 hc0 x0 x1 x2 x3 xs0).2.2.1 =
      chunks (arg3.view.read (Elt F) (harg3.unread x2)) (arg4.view.read (Elt F) (harg4.unread x3)) 16 (by decide) := by
  sl_kernel_rfl

end Cert.Decode
end
-- ==== Proof.Trips1.lean ====
module

public import proofs.«01_k».proof.Proof.Rows
public import proofs.«01_k».proof.Proof.Gen.SliceIdeal.Loops

@[expose] public section

set_option maxRecDepth 8192
set_option maxHeartbeats 4000000

noncomputable section

namespace Cert.Decode

open Idealize.ShloMosaic Idealize.ShloMosaic.TcCoe Idealize.SL.Sem Cert.SliceIdeal Cert.SliceIdeal.Gen

/-! ## What the loop over the rows of `x` stores -/

variable {F : FTy → Type} [FloatOps F]

/-- One trip's stores, last first: the twelve tiles of its 32 rows. -/
theorem tripL_t1_eq (𝒱 : Variants) (c : Dev nD) (bd : Option 𝒱.V) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (k0_h1 : k0_cond1 i = 1#1) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 k0_h1 X_arg1 X_arg2 k =
      ([⟨Rect.unit (s := S1280x1536) (k0_off23 k) S32x128.size (k0_off23_inb i k k0_h1),
          tile (F := F) 3 768#32 (View.ld (arg1.view.read (Elt F) X_arg1) (Rect.unit (s := S1280x1152) (k0_off7 k) S32x128.size (k0_off7_inb i k k0_h1)))
            (View.ld (arg1.view.read (Elt F) X_arg1) (Rect.unit (s := S1280x1152) (k0_off8 k) S32x128.size (k0_off8_inb i k k0_h1)))
            (View.ld (arg1.view.read (Elt F) X_arg1) (Rect.unit (s := S1280x1152) (k0_off9 k) S32x128.size (k0_off9_inb i k k0_h1)))
            (View.ld (arg2.view.read (Elt F) X_arg2) (Rect.unit (s := S1280x48) (k0_off10 k) S32x48.size (k0_off10_inb i k k0_h1)))⟩,
        ⟨Rect.unit (s := S1280x1536) (k0_off22 k) S32x128.size (k0_off22_inb i k k0_h1),
          tile (F := F) 2 768#32 (View.ld (arg1.view.read (Elt F) X_arg1) (Rect.unit (s := S1280x1152) (k0_off7 k) S32x128.size (k0_off7_inb i k k0_h1)))
            (View.ld (arg1.view.read (Elt F) X_arg1) (Rect.unit (s := S1280x1152) (k0_off8 k) S32x128.size (k0_off8_inb i k k0_h1)))
            (View.ld (arg1.view.read (Elt F) X_arg1) (Rect.unit (s := S1280x1152) (k0_off9 k) S32x128.size (k0_off9_inb i k k0_h1)))
            (View.ld (arg2.view.read (Elt F) X_arg2) (Rect.unit (s := S1280x48) (k0_off10 k) S32x48.size (k0_off10_inb i k k0_h1)))⟩,
        ⟨Rect.unit (s := S1280x1536) (k0_off21 k) S32x128.size (k0_off21_inb i k k0_h1),
          tile (F := F) 1 768#32 (View.ld (arg1.view.read (Elt F) X_arg1) (Rect.unit (s := S1280x1152) (k0_off7 k) S32x128.size (k0_off7_inb i k k0_h1)))
            (View.ld (arg1.view.read (Elt F) X_arg1) (Rect.unit (s := S1280x1152) (k0_off8 k) S32x128.size (k0_off8_inb i k k0_h1)))
            (View.ld (arg1.view.read (Elt F) X_arg1) (Rect.unit (s := S1280x1152) (k0_off9 k) S32x128.size (k0_off9_inb i k k0_h1)))
            (View.ld (arg2.view.read (Elt F) X_arg2) (Rect.unit (s := S1280x48) (k0_off10 k) S32x48.size (k0_off10_inb i k k0_h1)))⟩,
        ⟨Rect.unit (s := S1280x1536) (k0_off20 k) S32x128.size (k0_off20_inb i k k0_h1),
          tile (F := F) 0 768#32 (View.ld (arg1.view.read (Elt F) X_arg1) (Rect.unit (s := S1280x1152) (k0_off7 k) S32x128.size (k0_off7_inb i k k0_h1)))
            (View.ld (arg1.view.read (Elt F) X_arg1) (Rect.unit (s := S1280x1152) (k0_off8 k) S32x128.size (k0_off8_inb i k k0_h1)))
            (View.ld (arg1.view.read (Elt F) X_arg1) (Rect.unit (s := S1280x1152) (k0_off9 k) S32x128.size (k0_off9_inb i k k0_h1)))
            (View.ld (arg2.view.read (Elt F) X_arg2) (Rect.unit (s := S1280x48) (k0_off10 k) S32x48.size (k0_off10_inb i k k0_h1)))⟩,
        ⟨Rect.unit (s := S1280x1536) (k0_off19 k) S32x128.size (k0_off19_inb i k k0_h1),
          tile (F := F) 3 384#32 (View.ld (arg1.view.read (Elt F) X_arg1) (Rect.unit (s := S1280x1152) (k0_off4 k) S32x128.size (k0_off4_inb i k k0_h1)))
            (View.ld (arg1.view.read (Elt F) X_arg1) (Rect.unit (s := S1280x1152) (k0_off5 k) S32x128.size (k0_off5_inb i k k0_h1)))
            (View.ld (arg1.view.read (Elt F) X_arg1) (Rect.unit (s := S1280x1152) (k0_off6 k) S32x128.size (k0_off6_inb i k k0_h1)))
            (View.ld (arg2.view.read (Elt F) X_arg2) (Rect.unit (s := S1280x48) (k0_off10 k) S32x48.size (k0_off10_inb i k k0_h1)))⟩,
        ⟨Rect.unit (s := S1280x1536) (k0_off18 k) S32x128.size (k0_off18_inb i k k0_h1),
          tile (F := F) 2 384#32 (View.ld (arg1.view.read (Elt F) X_arg1) (Rect.unit (s := S1280x1152) (k0_off4 k) S32x128.size (k0_off4_inb i k k0_h1)))
            (View.ld (arg1.view.read (Elt F) X_arg1) (Rect.unit (s := S1280x1152) (k0_off5 k) S32x128.size (k0_off5_inb i k k0_h1)))
            (View.ld (arg1.view.read (Elt F) X_arg1) (Rect.unit (s := S1280x1152) (k0_off6 k) S32x128.size (k0_off6_inb i k k0_h1)))
            (View.ld (arg2.view.read (Elt F) X_arg2) (Rect.unit (s := S1280x48) (k0_off10 k) S32x48.size (k0_off10_inb i k k0_h1)))⟩,
        ⟨Rect.unit (s := S1280x1536) (k0_off17 k) S32x128.size (k0_off17_inb i k k0_h1),
          tile (F := F) 1 384#32 (View.ld (arg1.view.read (Elt F) X_arg1) (Rect.unit (s := S1280x1152) (k0_off4 k) S32x128.size (k0_off4_inb i k k0_h1)))
            (View.ld (arg1.view.read (Elt F) X_arg1) (Rect.unit (s := S1280x1152) (k0_off5 k) S32x128.size (k0_off5_inb i k k0_h1)))
            (View.ld (arg1.view.read (Elt F) X_arg1) (Rect.unit (s := S1280x1152) (k0_off6 k) S32x128.size (k0_off6_inb i k k0_h1)))
            (View.ld (arg2.view.read (Elt F) X_arg2) (Rect.unit (s := S1280x48) (k0_off10 k) S32x48.size (k0_off10_inb i k k0_h1)))⟩,
        ⟨Rect.unit (s := S1280x1536) (k0_off16 k) S32x128.size (k0_off16_inb i k k0_h1),
          tile (F := F) 0 384#32 (View.ld (arg1.view.read (Elt F) X_arg1) (Rect.unit (s := S1280x1152) (k0_off4 k) S32x128.size (k0_off4_inb i k k0_h1)))
            (View.ld (arg1.view.read (Elt F) X_arg1) (Rect.unit (s := S1280x1152) (k0_off5 k) S32x128.size (k0_off5_inb i k k0_h1)))
            (View.ld (arg1.view.read (Elt F) X_arg1) (Rect.unit (s := S1280x1152) (k0_off6 k) S32x128.size (k0_off6_inb i k k0_h1)))
            (View.ld (arg2.view.read (Elt F) X_arg2) (Rect.unit (s := S1280x48) (k0_off10 k) S32x48.size (k0_off10_inb i k k0_h1)))⟩,
        ⟨Rect.unit (s := S1280x1536) (k0_off15 k) S32x128.size (k0_off15_inb i k k0_h1),
          tile (F := F) 3 0#32 (View.ld (arg1.view.read (Elt F) X_arg1) (Rect.unit (s := S1280x1152) (k0_off1 k) S32x128.size (k0_off1_inb i k k0_h1)))
            (View.ld (arg1.view.read (Elt F) X_arg1) (Rect.unit (s := S1280x1152) (k0_off2 k) S32x128.size (k0_off2_inb i k k0_h1)))
            (View.ld (arg1.view.read (Elt F) X_arg1) (Rect.unit (s := S1280x1152) (k0_off3 k) S32x128.size (k0_off3_inb i k k0_h1)))
            (View.ld (arg2.view.read (Elt F) X_arg2) (Rect.unit (s := S1280x48) (k0_off10 k) S32x48.size (k0_off10_inb i k k0_h1)))⟩,
        ⟨Rect.unit (s := S1280x1536) (k0_off14 k) S32x128.size (k0_off14_inb i k k0_h1),
          tile (F := F) 2 0#32 (View.ld (arg1.view.read (Elt F) X_arg1) (Rect.unit (s := S1280x1152) (k0_off1 k) S32x128.size (k0_off1_inb i k k0_h1)))
            (View.ld (arg1.view.read (Elt F) X_arg1) (Rect.unit (s := S1280x1152) (k0_off2 k) S32x128.size (k0_off2_inb i k k0_h1)))
            (View.ld (arg1.view.read (Elt F) X_arg1) (Rect.unit (s := S1280x1152) (k0_off3 k) S32x128.size (k0_off3_inb i k k0_h1)))
            (View.ld (arg2.view.read (Elt F) X_arg2) (Rect.unit (s := S1280x48) (k0_off10 k) S32x48.size (k0_off10_inb i k k0_h1)))⟩,
        ⟨Rect.unit (s := S1280x1536) (k0_off13 k) S32x128.size (k0_off13_inb i k k0_h1),
          tile (F := F) 1 0#32 (View.ld (arg1.view.read (Elt F) X_arg1) (Rect.unit (s := S1280x1152) (k0_off1 k) S32x128.size (k0_off1_inb i k k0_h1)))
            (View.ld (arg1.view.read (Elt F) X_arg1) (Rect.unit (s := S1280x1152) (k0_off2 k) S32x128.size (k0_off2_inb i k k0_h1)))
            (View.ld (arg1.view.read (Elt F) X_arg1) (Rect.unit (s := S1280x1152) (k0_off3 k) S32x128.size (k0_off3_inb i k k0_h1)))
            (View.ld (arg2.view.read (Elt F) X_arg2) (Rect.unit (s := S1280x48) (k0_off10 k) S32x48.size (k0_off10_inb i k k0_h1)))⟩,
        ⟨Rect.unit (s := S1280x1536) (k0_off12 k) S32x128.size (k0_off12_inb i k k0_h1),
          tile (F := F) 0 0#32 (View.ld (arg1.view.read (Elt F) X_arg1) (Rect.unit (s := S1280x1152) (k0_off1 k) S32x128.size (k0_off1_inb i k k0_h1)))
            (View.ld (arg1.view.read (Elt F) X_arg1) (Rect.unit (s := S1280x1152) (k0_off2 k) S32x128.size (k0_off2_inb i k k0_h1)))
            (View.ld (arg1.view.read (Elt F) X_arg1) (Rect.unit (s := S1280x1152) (k0_off3 k) S32x128.size (k0_off3_inb i k k0_h1)))
            (View.ld (arg2.view.read (Elt F) X_arg2) (Rect.unit (s := S1280x48) (k0_off10 k) S32x48.size (k0_off10_inb i k k0_h1)))⟩] : List (View.Piece (Elt F) S1280x1536 .bf16)) := by
  unfold tripL_k0_t1 trip_k0_t1
  rfl

/-- One trip's stores are blocks of the decoded rows. -/
theorem tripL_t1_pieces (𝒱 : Variants) (c : Dev nD) (bd : Option 𝒱.V) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (k0_h1 : k0_cond1 i = 1#1) (X_arg1 : BufTy.Contents (Elt Ideal) arg1.view.ty) (X_arg2 : BufTy.Contents (Elt Ideal) arg2.view.ty) (k : Fin k0_t1_loop.trips) :
    View.PiecesOf (decodeRows (arg1.view.read (Elt Ideal) X_arg1) (arg2.view.read (Elt Ideal) X_arg2))
      (tripL_k0_t1 (F := Ideal) 𝒱 c bd i arg1 harg1 arg2 harg2 arg3 harg3 arg4 harg4 arg5 harg5 arg6 harg6 arg7 harg7 k0_h1 X_arg1 X_arg2 k) := by
  rw [tripL_t1_eq]
  exact ⟨tile_piece _ _ 3 2 (32 * k.val) (k0_off7_eq k) (k0_off8_eq k) (k0_off9_eq k) (k0_off10_eq k) (k0_off23_eq k) (k0_off7_inb i k k0_h1) (k0_off8_inb i k k0_h1) (k0_off9_inb i k k0_h1) (k0_off10_inb i k k0_h1) (k0_off23_inb i k k0_h1),
    tile_piece _ _ 2 2 (32 * k.val) (k0_off7_eq k) (k0_off8_eq k) (k0_off9_eq k) (k0_off10_eq k) (k0_off22_eq k) (k0_off7_inb i k k0_h1) (k0_off8_inb i k k0_h1) (k0_off9_inb i k k0_h1) (k0_off10_inb i k k0_h1) (k0_off22_inb i k k0_h1),
    tile_piece _ _ 1 2 (32 * k.val) (k0_off7_eq k) (k0_off8_eq k) (k0_off9_eq k) (k0_off10_eq k) (k0_off21_eq k) (k0_off7_inb i k k0_h1) (k0_off8_inb i k k0_h1) (k0_off9_inb i k k0_h1) (k0_off10_inb i k k0_h1) (k0_off21_inb i k k0_h1),
    tile_piece _ _ 0 2 (32 * k.val) (k0_off7_eq k) (k0_off8_eq k) (k0_off9_eq k) (k0_off10_eq k) (k0_off20_eq k) (k0_off7_inb i k k0_h1) (k0_off8_inb i k k0_h1) (k0_off9_inb i k k0_h1) (k0_off10_inb i k k0_h1) (k0_off20_inb i k k0_h1),
    tile_piece _ _ 3 1 (32 * k.val) (k0_off4_eq k) (k0_off5_eq k) (k0_off6_eq k) (k0_off10_eq k) (k0_off19_eq k) (k0_off4_inb i k k0_h1) (k0_off5_inb i k k0_h1) (k0_off6_inb i k k0_h1) (k0_off10_inb i k k0_h1) (k0_off19_inb i k k0_h1),
    tile_piece _ _ 2 1 (32 * k.val) (k0_off4_eq k) (k0_off5_eq k) (k0_off6_eq k) (k0_off10_eq k) (k0_off18_eq k) (k0_off4_inb i k k0_h1) (k0_off5_inb i k k0_h1) (k0_off6_inb i k k0_h1) (k0_off10_inb i k k0_h1) (k0_off18_inb i k k0_h1),
    tile_piece _ _ 1 1 (32 * k.val) (k0_off4_eq k) (k0_off5_eq k) (k0_off6_eq k) (k0_off10_eq k) (k0_off17_eq k) (k0_off4_inb i k k0_h1) (k0_off5_inb i k k0_h1) (k0_off6_inb i k k0_h1) (k0_off10_inb i k k0_h1) (k0_off17_inb i k k0_h1),
    tile_piece _ _ 0 1 (32 * k.val) (k0_off4_eq k) (k0_off5_eq k) (k0_off6_eq k) (k0_off10_eq k) (k0_off16_eq k) (k0_off4_inb i k k0_h1) (k0_off5_inb i k k0_h1) (k0_off6_inb i k k0_h1) (k0_off10_inb i k k0_h1) (k0_off16_inb i k k0_h1),
    tile_piece _ _ 3 0 (32 * k.val) (k0_off1_eq k) (k0_off2_eq k) (k0_off3_eq k) (k0_off10_eq k) (k0_off15_eq k) (k0_off1_inb i k k0_h1) (k0_off2_inb i k k0_h1) (k0_off3_inb i k k0_h1) (k0_off10_inb i k k0_h1) (k0_off15_inb i k k0_h1),
    tile_piece _ _ 2 0 (32 * k.val) (k0_off1_eq k) (k0_off2_eq k) (k0_off3_eq k) (k0_off10_eq k) (k0_off14_eq k) (k0_off1_inb i k k0_h1) (k0_off2_inb i k k0_h1) (k0_off3_inb i k k0_h1) (k0_off10_inb i k k0_h1) (k0_off14_inb i k k0_h1),
    tile_piece _ _ 1 0 (32 * k.val) (k0_off1_eq k) (k0_off2_eq k) (k0_off3_eq k) (k0_off10_eq k) (k0_off13_eq k) (k0_off1_inb i k k0_h1) (k0_off2_inb i k k0_h1) (k0_off3_inb i k k0_h1) (k0_off10_inb i k k0_h1) (k0_off13_inb i k k0_h1),
    tile_piece _ _ 0 0 (32 * k.val) (k0_off1_eq k) (k0_off2_eq k) (k0_off3_eq k) (k0_off10_eq k) (k0_off12_eq k) (k0_off1_inb i k k0_h1) (k0_off2_inb i k k0_h1) (k0_off3_inb i k k0_h1) (k0_off10_inb i k k0_h1) (k0_off12_inb i k k0_h1), trivial⟩

/-- So are the stores of any number of trips. -/
theorem pb_t1_pieces (𝒱 : Variants) (c : Dev nD) (bd : Option 𝒱.V) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (k0_h1 : k0_cond1 i = 1#1) (X_arg1 : BufTy.Contents (Elt Ideal) arg1.view.ty) (X_arg2 : BufTy.Contents (Elt Ideal) arg2.view.ty) :
    ∀ n, n ≤ k0_t1_loop.trips → View.PiecesOf (decodeRows (arg1.view.read (Elt Ideal) X_arg1) (arg2.view.read (Elt Ideal) X_arg2))
      (pb_k0_t1 (F := Ideal) 𝒱 c bd i arg1 harg1 arg2 harg2 arg3 harg3 arg4 harg4 arg5 harg5 arg6 harg6 arg7 harg7 k0_h1 X_arg1 X_arg2 n)
  | 0, _ => trivial
  | n + 1, h => by
    rw [pb_k0_t1_succ (F := Ideal) 𝒱 c bd i arg1 harg1 arg2 harg2 arg3 harg3 arg4 harg4 arg5 harg5 arg6 harg6 arg7 harg7 k0_h1 X_arg1 X_arg2 ⟨n, h⟩]
    exact piecesOf_append _ _ _ (tripL_t1_pieces 𝒱 c bd i arg1 harg1 arg2 harg2 arg3 harg3 arg4 harg4 arg5 harg5 arg6 harg6 arg7 harg7 k0_h1 X_arg1 X_arg2 ⟨n, h⟩) (pb_t1_pieces 𝒱 c bd i arg1 harg1 arg2 harg2 arg3 harg3 arg4 harg4 arg5 harg5 arg6 harg6 arg7 harg7 k0_h1 X_arg1 X_arg2 n (Nat.le_of_succ_le h))

end Cert.Decode
end
-- ==== Proof.Step.lean ====
module

public import proofs.«01_k».proof.Proof.Runs
public import proofs.«01_k».proof.Proof.Trips1
public import proofs.«01_k».proof.Proof.Gen.SliceIdeal.Frame

@[expose] public section

set_option maxRecDepth 65536
set_option maxHeartbeats 4000000

noncomputable section

namespace Cert.Decode

open Idealize.ShloMosaic Idealize.ShloMosaic.TcCoe Idealize.SL.Sem Cert.SliceIdeal Cert.SliceIdeal.Gen

/-! ## What one step leaves: the decoded activations, and their product with the decoded weights -/

section Lists

variable {F : FTy → Type} [FloatOps F]

/-- The first step's stores of `x` are the loop's. -/
theorem runA_rows (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec F S1280x1152 .i8) (x1 : Vec F S1280x48 .i8) (x2 : Vec F S512x1152 .i8) (x3 : Vec F S512x48 .i8) :
    (kernelRun0_A (F := F) c i arg1 harg1 arg2 harg2 arg3 harg3 arg4 harg4 arg5 harg5 arg6 harg6 arg7 harg7 hc0 x0 x1 x2 x3).2.1 =
      pb_k0_t1 (F := F) Variants.none c none i arg1 harg1 arg2 harg2 arg3 harg3 arg4 harg4 arg5 harg5 arg6 harg6 arg7 harg7 hc0 (harg1.unread x0) (harg2.unread x1) k0_t1_loop.trips := by
  sl_kernel_rfl

/-- The first step's output: the product of what it stored. -/
theorem runA_out (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec F S1280x1152 .i8) (x1 : Vec F S1280x48 .i8) (x2 : Vec F S512x1152 .i8) (x3 : Vec F S512x48 .i8) :
    (kernelRun0_A (F := F) c i arg1 harg1 arg2 harg2 arg3 harg3 arg4 harg4 arg5 harg5 arg6 harg6 arg7 harg7 hc0 x0 x1 x2 x3).1 =
      [⟨Rect.unit (s := S1280x512) ![0, 0] S1280x512.size inb_S1280x512_S1280x512_0_0, k0_pay2 (arg6.view.readCov (Val := Elt F) (kernelRun0_A (F := F) c i arg1 harg1 arg2 harg2 arg3 harg3 arg4 harg4 arg5 harg5 arg6 harg6 arg7 harg7 hc0 x0 x1 x2 x3).2.1 (Rect.unit (s := S1280x1536) ![0, 0] S1280x1536.size inb_S1280x1536_S1280x1536_0_0).toLoadRect)
        (arg7.view.readCov (Val := Elt F) (kernelRun0_A (F := F) c i arg1 harg1 arg2 harg2 arg3 harg3 arg4 harg4 arg5 harg5 arg6 harg6 arg7 harg7 hc0 x0 x1 x2 x3).2.2.1 (Rect.unit (s := S512x1536) ![0, 0] S512x1536.size inb_S512x1536_S512x1536_0_0).toLoadRect)⟩] := by
  sl_kernel_rfl

/-- A later step's output: the product with the activations the first step left. -/
theorem runB_out (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : ¬cond0_0 i) (x0 : Vec F S1280x1152 .i8) (x1 : Vec F S1280x48 .i8) (x2 : Vec F S512x1152 .i8) (x3 : Vec F S512x48 .i8) (xs0 : Vec F S1280x1536 .bf16) :
    (kernelRun0_B (F := F) c i arg1 harg1 arg2 harg2 arg3 harg3 arg4 harg4 arg5 harg5 arg6 harg6 arg7 harg7 hc0 x0 x1 x2 x3 xs0).1 =
      [⟨Rect.unit (s := S1280x512) ![0, 0] S1280x512.size inb_S1280x512_S1280x512_0_0, k0_pay2 (View.ld (arg6.view.read (Elt F) (harg6.unread xs0)) (Rect.unit (s := S1280x1536) ![0, 0] S1280x1536.size inb_S1280x1536_S1280x1536_0_0))
        (arg7.view.readCov (Val := Elt F) (kernelRun0_B (F := F) c i arg1 harg1 arg2 harg2 arg3 harg3 arg4 harg4 arg5 harg5 arg6 harg6 arg7 harg7 hc0 x0 x1 x2 x3 xs0).2.2.1 (Rect.unit (s := S512x1536) ![0, 0] S512x1536.size inb_S512x1536_S512x1536_0_0).toLoadRect)⟩] := by
  sl_kernel_rfl

end Lists

/-- The zero offset. -/
theorem zero2 : (![0, 0] : Fin 2 → Nat) = fun _ => 0 := by
  funext a; fin_cases a <;> rfl

/-- A whole-array rectangle's places. -/
theorem idx_whole {N M : Nat} (inb : ∀ a, (![0, 0] : Fin 2 → Nat) a + (⟨2, ![N, M]⟩ : Shape).size a ≤ (⟨2, ![N, M]⟩ : Shape).size a)
    (y : (⟨2, ![N, M]⟩ : Shape).Idx) : (Rect.unit (s := ⟨2, ![N, M]⟩) ![0, 0] (⟨2, ![N, M]⟩ : Shape).size inb).emb y = y := by
  funext a; apply Fin.ext
  fin_cases a
  · show 0 + 1 * (y 0).val = (y 0).val; omega
  · show 0 + 1 * (y 1).val = (y 1).val; omega

/-- Loading a whole array. -/
theorem ld_whole {N M : Nat} {e : EltTy} (inb : ∀ a, (![0, 0] : Fin 2 → Nat) a + (⟨2, ![N, M]⟩ : Shape).size a ≤ (⟨2, ![N, M]⟩ : Shape).size a)
    (x : (⟨2, ![N, M]⟩ : Shape).Idx → Elt Ideal e) :
    View.ld (Val := Elt Ideal) (e' := e) x (Rect.unit (s := ⟨2, ![N, M]⟩) ![0, 0] (⟨2, ![N, M]⟩ : Shape).size inb) = x :=
  funext fun y => congrArg x (idx_whole inb y)

/-- A list of blocks of one array that covers it, read back whole. -/
theorem canon_of_pieces {s : Shape} {e : EltTy} (G : s.Idx → Elt Ideal e) (L : List (View.Piece (Elt Ideal) s e)) (h : View.PiecesOf G L)
    (hc : ∀ y, ∃ p ∈ L, y ∈ p.1.set) : View.canon L = G := by
  funext y
  simpa using View.canon_append_of_piecesOf G [] L h y (hc y)

/-- What the first step stores of `x` are blocks of the decoded activations. -/
theorem runA_rows_pieces (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec Ideal S1280x1152 .i8) (x1 : Vec Ideal S1280x48 .i8) (x2 : Vec Ideal S512x1152 .i8) (x3 : Vec Ideal S512x48 .i8) :
    View.PiecesOf (decodeRows x0 x1) (kernelRun0_A (F := Ideal) c i arg1 harg1 arg2 harg2 arg3 harg3 arg4 harg4 arg5 harg5 arg6 harg6 arg7 harg7 hc0 x0 x1 x2 x3).2.1 := by
  rw [runA_rows]
  simpa only [harg1.read_unread, harg2.read_unread] using pb_t1_pieces Variants.none c none i arg1 harg1 arg2 harg2 arg3 harg3 arg4 harg4 arg5 harg5 arg6 harg6 arg7 harg7 hc0 (harg1.unread x0) (harg2.unread x1) k0_t1_loop.trips le_rfl

/-- The activations the first step leaves. -/
theorem soutA (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec Ideal S1280x1152 .i8) (x1 : Vec Ideal S1280x48 .i8) (x2 : Vec Ideal S512x1152 .i8) (x3 : Vec Ideal S512x48 .i8) :
    sout0_A_0 (F := Ideal) c i arg1 harg1 arg2 harg2 arg3 harg3 arg4 harg4 arg5 harg5 arg6 harg6 arg7 harg7 hc0 x0 x1 x2 x3 = decodeRows x0 x1 := by
  unfold sout0_A_0
  funext y
  rw [View.read_writes_junk_apply_eq_canon]
  refine congrFun (canon_of_pieces _ _ ?_ (scover0_A_0 (F := Ideal) c i arg1 harg1 arg2 harg2 arg3 harg3 arg4 harg4 arg5 harg5 arg6 harg6 arg7 harg7 hc0 x0 x1 x2 x3)) y
  exact runA_rows_pieces c i arg1 harg1 arg2 harg2 arg3 harg3 arg4 harg4 arg5 harg5 arg6 harg6 arg7 harg7 hc0 x0 x1 x2 x3

/-- The weights' stores read back whole, once they cover the buffer. -/
theorem weights_read (v : View sig .tc .vmem S512x1536 .bf16) (L : List (View.Piece (Elt Ideal) S512x1536 .bf16))
    (x : Vec Ideal S512x1152 .i8) (s : Vec Ideal S512x48 .i8) (h : View.PiecesOf (decodeRows x s) L)
    (hc : ∀ y, ∃ p ∈ L, y ∈ p.1.set) :
    v.readCov (Val := Elt Ideal) L (Rect.unit (s := S512x1536) ![0, 0] S512x1536.size inb_S512x1536_S512x1536_0_0).toLoadRect = decodeRows x s := by
  rw [View.readCov_eq_canon', canon_of_pieces _ _ h hc]
  exact funext fun y => congrArg (decodeRows x s) (idx_whole inb_S512x1536_S512x1536_0_0 y)

/-- The output of the first step. -/
theorem outA (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : cond0_0 i) (x0 : Vec Ideal S1280x1152 .i8) (x1 : Vec Ideal S1280x48 .i8) (x2 : Vec Ideal S512x1152 .i8) (x3 : Vec Ideal S512x48 .i8) :
    out0_A_4 (F := Ideal) c i arg1 harg1 arg2 harg2 arg3 harg3 arg4 harg4 arg5 harg5 arg6 harg6 arg7 harg7 hc0 x0 x1 x2 x3 = k0_pay2 (F := Ideal) (decodeRows x0 x1) (decodeRows x2 x3) := by
  unfold out0_A_4
  funext y
  rw [View.read_writes_junk_apply_eq_canon, runA_out, View.canon_cons_unit_zero zero2]
  have h0 : arg6.view.readCov (Val := Elt Ideal) (kernelRun0_A (F := Ideal) c i arg1 harg1 arg2 harg2 arg3 harg3 arg4 harg4 arg5 harg5 arg6 harg6 arg7 harg7 hc0 x0 x1 x2 x3).2.1 (Rect.unit (s := S1280x1536) ![0, 0] S1280x1536.size inb_S1280x1536_S1280x1536_0_0).toLoadRect = decodeRows x0 x1 := by
    rw [View.readCov_eq_canon', canon_of_pieces (decodeRows x0 x1) _ ?_ (scover0_A_0 (F := Ideal) c i arg1 harg1 arg2 harg2 arg3 harg3 arg4 harg4 arg5 harg5 arg6 harg6 arg7 harg7 hc0 x0 x1 x2 x3)]
    · exact funext fun y => congrArg (decodeRows x0 x1) (idx_whole inb_S1280x1536_S1280x1536_0_0 y)
    · exact runA_rows_pieces c i arg1 harg1 arg2 harg2 arg3 harg3 arg4 harg4 arg5 harg5 arg6 harg6 arg7 harg7 hc0 x0 x1 x2 x3
  rw [h0, weights_read _ _ x2 x3 ?_ (fun y => View.cover_of_tiledL (kernelRun0_A (F := Ideal) c i arg1 harg1 arg2 harg2 arg3 harg3 arg4 harg4 arg5 harg5 arg6 harg6 arg7 harg7 hc0 x0 x1 x2 x3).2.2.1 S32x128.size (by sl_kernel_rfl) y)]
  rw [runA_weights]
  simpa only [harg3.read_unread, harg4.read_unread] using chunks_pieces (arg3.view.read (Elt Ideal) (harg3.unread x2)) (arg4.view.read (Elt Ideal) (harg4.unread x3)) 16 (by decide)

/-- The output of a later step. -/
theorem outB (c : Dev nD) (i : grid0.Coords) (arg1 : Memref sig .tc .vmem S1280x1152 .i8) (harg1 : arg1.IsWhole) (arg2 : Memref sig .tc .vmem S1280x48 .i8) (harg2 : arg2.IsWhole) (arg3 : Memref sig .tc .vmem S512x1152 .i8) (harg3 : arg3.IsWhole) (arg4 : Memref sig .tc .vmem S512x48 .i8) (harg4 : arg4.IsWhole) (arg5 : Memref sig .tc .vmem S1280x512 .bf16) (harg5 : arg5.IsWhole) (arg6 : Memref sig .tc .vmem S1280x1536 .bf16) (harg6 : arg6.IsWhole) (arg7 : Memref sig .tc .vmem S512x1536 .bf16) (harg7 : arg7.IsWhole) (hc0 : ¬cond0_0 i) (x0 : Vec Ideal S1280x1152 .i8) (x1 : Vec Ideal S1280x48 .i8) (x2 : Vec Ideal S512x1152 .i8) (x3 : Vec Ideal S512x48 .i8) (xs0 : Vec Ideal S1280x1536 .bf16) :
    out0_B_4 (F := Ideal) c i arg1 harg1 arg2 harg2 arg3 harg3 arg4 harg4 arg5 harg5 arg6 harg6 arg7 harg7 hc0 x0 x1 x2 x3 xs0 = k0_pay2 (F := Ideal) xs0 (decodeRows x2 x3) := by
  unfold out0_B_4
  funext y
  rw [View.read_writes_junk_apply_eq_canon, runB_out, View.canon_cons_unit_zero zero2, harg6.read_unread]
  have h0 : View.ld (Val := Elt Ideal) (e' := .bf16) xs0 (Rect.unit (s := S1280x1536) ![0, 0] S1280x1536.size inb_S1280x1536_S1280x1536_0_0) = xs0 :=
    ld_whole inb_S1280x1536_S1280x1536_0_0 xs0
  rw [h0, weights_read _ _ x2 x3 ?_ (fun y => View.cover_of_tiledL (kernelRun0_B (F := Ideal) c i arg1 harg1 arg2 harg2 arg3 harg3 arg4 harg4 arg5 harg5 arg6 harg6 arg7 harg7 hc0 x0 x1 x2 x3 xs0).2.2.1 S32x128.size (by sl_kernel_rfl) y)]
  rw [runB_weights]
  simpa only [harg3.read_unread, harg4.read_unread] using chunks_pieces (arg3.view.read (Elt Ideal) (harg3.unread x2)) (arg4.view.read (Elt Ideal) (harg4.unread x3)) 16 (by decide)

end Cert.Decode
end
-- ==== Proof.Sweep.lean ====
module

public import proofs.«01_k».proof.Proof.Step
public import proofs.«01_k».proof.Proof.Gen.SliceIdeal.Value
public import Idealize.ShloMosaic.Lib.Pipeline.ValueKit

@[expose] public section

set_option maxRecDepth 8192

noncomputable section

namespace Cert.Decode

open Idealize.ShloMosaic Idealize.ShloMosaic.TcCoe Idealize.SL.Sem Cert.SliceIdeal Cert.SliceIdeal.Gen

/-! ## The blocks each step is given, and what the steps leave in turn -/

variable (m : (ℓ : Loc nD τ sig) → Buf (Elt Ideal) ℓ)

/-- x's codes are the same block at every step. -/
theorem index0 : ∀ t : Fin cfg0.N, win0_0.index t (0 : Fin 2) = 0 ∧ win0_0.index t (1 : Fin 2) = 0 := by decide +kernel
/-- x's scales are the same block at every step. -/
theorem index1 : ∀ t : Fin cfg0.N, win0_1.index t (0 : Fin 2) = 0 ∧ win0_1.index t (1 : Fin 2) = 0 := by decide +kernel
/-- w's codes are tile `t` of the rows at step `t`. -/
theorem index2 : ∀ t : Fin cfg0.N, win0_2.index t (0 : Fin 2) = t.val ∧ win0_2.index t (1 : Fin 2) = 0 := by decide +kernel
/-- w's scales are tile `t` of the rows at step `t`. -/
theorem index3 : ∀ t : Fin cfg0.N, win0_3.index t (0 : Fin 2) = t.val ∧ win0_3.index t (1 : Fin 2) = 0 := by decide +kernel

/-- Every step sees all of the activations' codes. -/
theorem block0 (c : Dev nD) (t : Fin cfg0.N) : iblk m c 0 t = m ((c : Thread nD τ).loc main_arg0) := by
  funext y
  have h := index0 t
  blk_ext [iblk, V, h.1, h.2]

/-- Every step sees all of the activations' scales. -/
theorem block1 (c : Dev nD) (t : Fin cfg0.N) : iblk m c 1 t = m ((c : Thread nD τ).loc main_arg1) := by
  funext y
  have h := index1 t
  blk_ext [iblk, V, h.1, h.2]

/-- Step `t` sees 512 rows of the weights' codes. -/
theorem block2 (c : Dev nD) (t : Fin cfg0.N) (p : Fin 512) (q : Fin 1152) (h : 512 * t.val + p.val < 6144) :
    iblk m c 2 t (ValueIdx.ix2 p q) = m ((c : Thread nD τ).loc main_arg2) (ValueIdx.ix2 (⟨512 * t.val + p.val, h⟩ : Fin 6144) q) := by
  have h := index2 t
  blk_ext [iblk, V, h.1, h.2]
  show t.val * 512 + p.val = 512 * t.val + p.val
  omega

/-- Step `t` sees 512 rows of the weights' scales. -/
theorem block3 (c : Dev nD) (t : Fin cfg0.N) (p : Fin 512) (q : Fin 48) (h : 512 * t.val + p.val < 6144) :
    iblk m c 3 t (ValueIdx.ix2 p q) = m ((c : Thread nD τ).loc main_arg3) (ValueIdx.ix2 (⟨512 * t.val + p.val, h⟩ : Fin 6144) q) := by
  have h := index3 t
  blk_ext [iblk, V, h.1, h.2]
  show t.val * 512 + p.val = 512 * t.val + p.val
  omega

/-- After every step the scratch holds the decoded activations, and the output block their product with the step's decoded weights. -/
theorem outs_eq (c : Dev nD) : ∀ (n : Nat) (hn : n < cfg0.N),
    outsAt0 m c n hn =
      (k0_pay2 (F := Ideal) (decodeRows (m ((c : Thread nD τ).loc main_arg0)) (m ((c : Thread nD τ).loc main_arg1)))
          (decodeRows (iblk m c 2 ⟨n, hn⟩) (iblk m c 3 ⟨n, hn⟩)),
        decodeRows (m ((c : Thread nD τ).loc main_arg0)) (m ((c : Thread nD τ).loc main_arg1)))
  | 0, hn => by
    rw [outsAt0_A m c ⟨0, hn⟩ (Nat.zero_mod _), outA, soutA, block0, block1]
  | n + 1, hn => by
    have hN : n + 1 < 12 := lt_of_lt_of_eq hn (show cfg0.N = 12 from N_0)
    rw [outsAt0_B m c ⟨n + 1, hn⟩ (by show ¬ (n + 1) % 12 = 0; omega), outB]
    unfold sout0_B_0
    have ih := outs_eq c n (Nat.lt_of_succ_lt hn)
    simp only [Nat.add_sub_cancel, ih]

/-- The result array: at row `b`, column `512 t + q`, the product of step `t` at column `q`. -/
theorem G4_apply (c : Dev nD) (b : Fin 1280) (n : Fin 6144) (t : Fin cfg0.N) (q : Fin 512) (h : n.val = 512 * t.val + q.val) :
    Value.G4 m c (ValueIdx.ix2 b n) =
      k0_pay2 (F := Ideal) (decodeRows (m ((c : Thread nD τ).loc main_arg0)) (m ((c : Thread nD τ).loc main_arg1)))
        (decodeRows (iblk m c 2 t) (iblk m c 3 t)) (ValueIdx.ix2 b q) := by
  have hb := b.isLt
  have hq := q.isLt
  have hp : Value.pt4Of (ValueIdx.ix2 b n) = t.val := by
    show 12 * (b.val / 1280 - 0) + 1 * (n.val / 512 - 0) = t.val
    omega
  have hl : Value.loc4Of (ValueIdx.ix2 b n) = ValueIdx.ix2 b q := by
    funext a; apply Fin.ext
    fin_cases a
    · show b.val % 1280 = b.val; omega
    · show n.val % 512 = q.val; omega
  unfold Value.G4
  rw [dif_pos (by rw [hp]; exact t.isLt), hl, ← Value.outsAt0_sweep m c _ (by rw [hp]; exact t.isLt)]
  have e : ∀ (k : Nat) (hk : k < cfg0.N), k = t.val → (outsAt0 m c k hk).1 = (outsAt0 m c t.val t.isLt).1 := by
    intro k hk e; subst e; rfl
  rw [e _ _ hp, outs_eq]

end Cert.Decode
end
-- ==== Proof.Product.lean ====
module

public import proofs.«01_k».proof.Proof.Sweep
public import Idealize.ShloMosaic.Lib.MatmulPlain
public import Mathlib.Data.Fintype.EquivFin

@[expose] public section

set_option maxRecDepth 8192

noncomputable section

namespace Cert.Decode

open Idealize.ShloMosaic Idealize.ShloMosaic.TcCoe Idealize.SL.Sem Cert.SliceIdeal Cert.SliceIdeal.Gen

/-! ## The product over the kernel's columns is the product over the channels in their own order -/

/-- The column that keeps channel `ch`. -/
def column (ch : Nat) : Nat :=
  let p := 3 * (ch / 4) + (ch % 4 - 1)
  if ch % 4 = 1 then 512 * (p / 384) + 384 + p % 128 else 512 * (p / 384) + p % 384

/-- A channel in the kernel's order is one of the 1536. -/
theorem chan_lt : ∀ κ : Fin 1536, chan κ.val < 1536 := by decide +kernel

/-- Going to a column's channel and back gives the column. -/
theorem column_chan : ∀ κ : Fin 1536, column (chan κ.val) = κ.val := by decide +kernel

/-- The kernel's order of the channels, as a permutation. -/
def chanPerm : Fin 1536 ≃ Fin 1536 :=
  Equiv.ofBijective (fun κ => ⟨chan κ.val, chan_lt κ⟩)
    (Finite.injective_iff_bijective.mp fun a b h => Fin.ext (by
      have e := congrArg column (Fin.val_eq_of_eq h)
      rwa [column_chan a, column_chan b] at e))

/-- A product of rows with rows, at one element: a sum over the shared axis. -/
theorem rows_dot {M K N : Nat} (A : FVec Ideal ⟨2, ![M, K]⟩ .bf16) (W : FVec Ideal ⟨2, ![N, K]⟩ .bf16) (b : Fin M) (n : Fin N) :
    ∑ k : (DotDims.transposedRhs M K N).contr.Idx, A ((DotDims.transposedRhs M K N).lhsIdx (ValueIdx.ix2 b n) k) * W ((DotDims.transposedRhs M K N).rhsIdx (ValueIdx.ix2 b n) k)
      = ∑ κ : Fin K, A (ValueIdx.ix2 b κ) * W (ValueIdx.ix2 n κ) := by
  rw [← Ideal.matmul_constant_zero_apply (DotDims.transposedRhs M K N) none A W, Ideal.matmul_transposedRhs_apply]
  show Ideal.ofBits .f32 0x00000000#32 + _ = _
  rw [Ideal.ofBits_zero_f32, zero_add]

/-- A step's product at one element: a sum over the columns. -/
theorem product_apply (A : Vec Ideal S1280x1536 .bf16) (W : Vec Ideal S512x1536 .bf16) (b : Fin 1280) (q : Fin 512) :
    k0_pay2 (F := Ideal) A W (ValueIdx.ix2 b q) = ∑ κ : Fin 1536, A (ValueIdx.ix2 b κ) * W (ValueIdx.ix2 q κ) :=
  (Ideal.matmul_constant_zero_apply dot_S1280x1536_S512x1536_S1280x512_1_1_0_0_n_n none A W (ValueIdx.ix2 b q)).trans
    (rows_dot (M := 1280) (K := 1536) (N := 512) A W b q)

/-- One result element: the sum over the channels of the products of two decoded rows. -/
def dotRows (B S B' S' : Nat → BitVec 8) : EReal := ∑ ch : Fin 1536, decoded B S ch.val * decoded B' S' ch.val

/-- The kernel's result: at row `b`, column `n`, the sum over the channels of the decoded products. -/
theorem kernel_apply (m : (ℓ : Loc nD τ sig) → Buf (Elt Ideal) ℓ) (c : Dev nD) (b : Fin 1280) (n : Fin 6144) :
    Value.G4 m c (ValueIdx.ix2 b n) =
      dotRows (rowOf (m ((c : Thread nD τ).loc main_arg0)) b) (rowOf (m ((c : Thread nD τ).loc main_arg1)) b)
        (rowOf (m ((c : Thread nD τ).loc main_arg2)) n) (rowOf (m ((c : Thread nD τ).loc main_arg3)) n) := by
  have hn := n.isLt
  have ht : n.val / 512 < cfg0.N := by rw [show cfg0.N = 12 from N_0]; omega
  have hq : n.val % 512 < 512 := Nat.mod_lt _ (by decide)
  have h : 512 * (n.val / 512) + n.val % 512 = n.val := Nat.div_add_mod _ _
  refine (G4_apply m c b n ⟨n.val / 512, ht⟩ ⟨n.val % 512, hq⟩ h.symm).trans
    ((product_apply _ _ b ⟨n.val % 512, hq⟩).trans (Fintype.sum_equiv (M := EReal) chanPerm _ _ fun κ => ?_))
  have e2 : rowOf (iblk m c 2 ⟨n.val / 512, ht⟩) (⟨n.val % 512, hq⟩ : Fin 512) = rowOf (m ((c : Thread nD τ).loc main_arg2)) n := by
    funext j
    unfold rowOf
    split
    · rw [block2 m c _ _ _ (h.trans_lt hn)]
      congr 2; exact Fin.ext h
    · rfl
  have e3 : rowOf (iblk m c 3 ⟨n.val / 512, ht⟩) (⟨n.val % 512, hq⟩ : Fin 512) = rowOf (m ((c : Thread nD τ).loc main_arg3)) n := by
    funext j
    unfold rowOf
    split
    · rw [block3 m c _ _ _ (h.trans_lt hn)]
      congr 2; exact Fin.ext h
    · rfl
  show decoded _ _ (chan κ.val) * decoded (rowOf _ _) (rowOf _ _) (chan κ.val) = _
  exact congrArg₂ (· * ·) rfl (congrArg₂ (fun B S => decoded B S (chan κ.val)) e2 e3)

end Cert.Decode
end
-- ==== Proof.PlainValue.lean ====
module

public import proofs.«01_k».proof.Proof.PlainRows
public import proofs.«01_k».proof.Proof.Product
public import proofs.«01_k».proof.Proof.Gen.ReferenceIdeal.Run

@[expose] public section

set_option maxRecDepth 8192

noncomputable section

namespace Cert.Decode

open Idealize.ShloMosaic Idealize.ShloMosaic.TcCoe Idealize.SL.Sem Cert.ReferenceIdeal Cert.ReferenceIdeal.Gen

/-! ## The reference's arrays at an index -/

/-- The reference's codes of the rows of `x`. -/
theorem xCode_at (V : Valuation τ sig (Elt Ideal)) (x : S1280x1152.Idx → BitVec 8) (hx : V (Proc.devRef .tc main_arg0) = x)
    (n : Fin 1280) (g : Fin 384) (f : Fin 4) :
    Value.res_main_v23 V (ValueIdx.ix3 n g f)
      = (code (packed (rowOf x n (3 * g.val)) (rowOf x n (3 * g.val + 1)) (rowOf x n (3 * g.val + 2))) f).setWidth 32 := by
  subst hx
  refine Eq.trans ?_ (plain_code _ _ _ f)
  refine congrArg₂ IntOp.andi (congrArg₂ (IntOp.shrsi .host) ?_ ?_) ?_
  · refine (spread_at _ _ _ n g f).trans ?_
    refine congrArg₂ IntOp.ori (congrArg₂ IntOp.ori ?_ (congrArg₂ (IntOp.shli .host) ?_ ?_)) (congrArg₂ (IntOp.shli .host) ?_ ?_)
    · exact bytes_at _ _ _ _ 0 rfl _ _ (by decide) n g
    · exact bytes_at _ _ _ _ 1 rfl _ _ (by decide) n g
    · rfl
    · exact bytes_at _ _ _ _ 2 rfl _ _ (by decide) n g
    · rfl
  · exact shifts_at _ _ _ n g f
  · rfl

/-- The reference's codes of the rows of `w`. -/
theorem wCode_at (V : Valuation τ sig (Elt Ideal)) (x : S6144x1152.Idx → BitVec 8) (hx : V (Proc.devRef .tc main_arg2) = x)
    (n : Fin 6144) (g : Fin 384) (f : Fin 4) :
    Value.res_main_v92 V (ValueIdx.ix3 n g f)
      = (code (packed (rowOf x n (3 * g.val)) (rowOf x n (3 * g.val + 1)) (rowOf x n (3 * g.val + 2))) f).setWidth 32 := by
  subst hx
  refine Eq.trans ?_ (plain_code _ _ _ f)
  refine congrArg₂ IntOp.andi (congrArg₂ (IntOp.shrsi .host) ?_ ?_) ?_
  · refine (spread_at _ _ _ n g f).trans ?_
    refine congrArg₂ IntOp.ori (congrArg₂ IntOp.ori ?_ (congrArg₂ (IntOp.shli .host) ?_ ?_)) (congrArg₂ (IntOp.shli .host) ?_ ?_)
    · exact bytes_at _ _ _ _ 0 rfl _ _ (by decide) n g
    · exact bytes_at _ _ _ _ 1 rfl _ _ (by decide) n g
    · rfl
    · exact bytes_at _ _ _ _ 2 rfl _ _ (by decide) n g
    · rfl
  · exact shifts_at _ _ _ n g f
  · rfl

/-- The reference's product at one element: a sum over the channels. -/
theorem plain_product (A : FVec Ideal S1280x1536 .bf16) (W : FVec Ideal S6144x1536 .bf16) (b : Fin 1280) (n : Fin 6144) :
    truncf (F := Ideal) .bf16 (Host.dotGeneral (F := Ideal) dot_S1280x1536_S6144x1536_S1280x6144_1_1_0_0_n_n none A W : FVec Ideal S1280x6144 .f32) bitsLt_bf16_f32 (ValueIdx.ix2 b n)
      = ∑ ch : Fin 1536, (A (ValueIdx.ix2 b ch) : EReal) * W (ValueIdx.ix2 n ch) := by
  unfold truncf Host.dotGeneral
  exact (Ideal.dotGeneral_apply dot_S1280x1536_S6144x1536_S1280x6144_1_1_0_0_n_n none _ A W (ValueIdx.ix2 b n)).trans
    (rows_dot (M := 1280) (K := 1536) (N := 6144) A W b n)

/-- The reference's result: at row `b`, column `n`, the sum over the channels of the decoded products. -/
theorem reference_apply (V : Valuation τ sig (Elt Ideal)) (x : S1280x1152.Idx → BitVec 8) (k : S1280x48.Idx → BitVec 8)
    (w : S6144x1152.Idx → BitVec 8) (l : S6144x48.Idx → BitVec 8) (hx : V (Proc.devRef .tc main_arg0) = x)
    (hk : V (Proc.devRef .tc main_arg1) = k) (hw : V (Proc.devRef .tc main_arg2) = w) (hl : V (Proc.devRef .tc main_arg3) = l)
    (b : Fin 1280) (n : Fin 6144) :
    truncf (F := Ideal) .bf16 (Host.dotGeneral dot_S1280x1536_S6144x1536_S1280x6144_1_1_0_0_n_n none (shapeCast _ (mulf (shapeCast _ (truncf .bf16 (select (cmpi .eq (Host.shrsi (Value.res_main_v23 V) (broadcastInDim S1280x384x4 ![] bcast_S_S1280x384x4 (constantI S_ 32 5#32))) (broadcastInDim S1280x384x4 ![] bcast_S_S1280x384x4 (constantI S_ 32 1#32))) (Host.negf (Value.res_main_v45 V)) (Value.res_main_v45 V)) bitsLt_bf16_f32) shapeCasts_S1280x384x4_S1280x48x32) (broadcastInDim S1280x48x32 ![0, 1, 2] bcast_S1280x48x1_S1280x48x32_0_1_2 (broadcastInDim S1280x48x1 ![0, 1] bcast_S1280x48_S1280x48x1_0_1 (truncf .bf16 (select (cmpi .eq (Value.res_main_v51 V) (broadcastInDim S1280x48 ![] bcast_S_S1280x48 (constantI S_ 32 0#32))) (broadcastInDim S1280x48 ![] bcast_S_S1280x48 (id (constant S_ .f32 0x00000000#32))) (select (cmpi .eq (Value.res_main_v51 V) (broadcastInDim S1280x48 ![] bcast_S_S1280x48 (constantI S_ 32 255#32))) (broadcastInDim S1280x48 ![] bcast_S_S1280x48 (id (constant S_ .f32 0x7F800000#32))) (Host.powf (broadcastInDim S1280x48 ![] bcast_S_S1280x48 (constant S_ .f32 0x40000000#32)) (sitofp .f32 (subi (Value.res_main_v51 V) (broadcastInDim S1280x48 ![] bcast_S_S1280x48 (constantI S_ 32 127#32))))))) bitsLt_bf16_f32)))) shapeCasts_S1280x48x32_S1280x1536) (shapeCast _ (mulf (shapeCast _ (truncf .bf16 (select (cmpi .eq (Host.shrsi (Value.res_main_v92 V) (broadcastInDim S6144x384x4 ![] bcast_S_S6144x384x4 (constantI S_ 32 5#32))) (broadcastInDim S6144x384x4 ![] bcast_S_S6144x384x4 (constantI S_ 32 1#32))) (Host.negf (Value.res_main_v114 V)) (Value.res_main_v114 V)) bitsLt_bf16_f32) shapeCasts_S6144x384x4_S6144x48x32) (broadcastInDim S6144x48x32 ![0, 1, 2] bcast_S6144x48x1_S6144x48x32_0_1_2 (broadcastInDim S6144x48x1 ![0, 1] bcast_S6144x48_S6144x48x1_0_1 (truncf .bf16 (select (cmpi .eq (Value.res_main_v120 V) (broadcastInDim S6144x48 ![] bcast_S_S6144x48 (constantI S_ 32 0#32))) (broadcastInDim S6144x48 ![] bcast_S_S6144x48 (id (constant S_ .f32 0x00000000#32))) (select (cmpi .eq (Value.res_main_v120 V) (broadcastInDim S6144x48 ![] bcast_S_S6144x48 (constantI S_ 32 255#32))) (broadcastInDim S6144x48 ![] bcast_S_S6144x48 (id (constant S_ .f32 0x7F800000#32))) (Host.powf (broadcastInDim S6144x48 ![] bcast_S_S6144x48 (constant S_ .f32 0x40000000#32)) (sitofp .f32 (subi (Value.res_main_v120 V) (broadcastInDim S6144x48 ![] bcast_S_S6144x48 (constantI S_ 32 127#32))))))) bitsLt_bf16_f32)))) shapeCasts_S6144x48x32_S6144x1536)) bitsLt_bf16_f32
      (ValueIdx.ix2 b n) = dotRows (rowOf x b) (rowOf k b) (rowOf w n) (rowOf l n) := by
  refine (plain_product _ _ b n).trans (Finset.sum_congr rfl fun ch _ => congrArg₂ (fun a c : EReal => a * c) ?_ ?_)
  · refine scaled_decoded x k _ _ _ _ _ _ (fun n g f => ?_) (fun n b => ?_) b ch
    · refine Eq.trans ?_ (plain_value _)
      rw [← xCode_at V x hx n g f]
      rfl
    · subst hk
      exact plain_scale (V (Proc.devRef .tc main_arg1) (ValueIdx.ix2 n b))
  · refine scaled_decoded w l _ _ _ _ _ _ (fun n g f => ?_) (fun n b => ?_) n ch
    · refine Eq.trans ?_ (plain_value _)
      rw [← wCode_at V w hw n g f]
      rfl
    · subst hl
      exact plain_scale (V (Proc.devRef .tc main_arg3) (ValueIdx.ix2 n b))

end Cert.Decode
end
-- ==== Proof.WholeRuns.lean ====
/- The whole kernel's frame, first part: `main` around its one pipeline, the blocks of its inputs, where the first-step
   branch is taken, and the memrefs that the body is called with. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- Nor do those after it. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2, main_v3, main_v4}
/-- The lines after the region write those buffers only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1280x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1152 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x48 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1280x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x1152 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1280x48 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1280x1536 .bf16 := Memref.whole cc0_scratch0
abbrev scM0_1 : Memref sig .tc .vmem S512x1536 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Whole

end
-- ==== Proof.WholeRunA.lean ====
/- The whole kernel's body at the first step (x is quantised, then the tile of w decoded and multiplied): it runs on any
   memrefs, leaves its inputs as they were and its outputs and scratch at some contents. -/
module

public import proofs.«01_k».proof.Proof.WholeRuns

@[expose] public section

-- membership in a rectangle of production extents (`View.cover_of_tiled`): the elaborator's structural look
-- recurses once per coordinate of the long axes
set_option maxRecDepth 16384

noncomputable section

namespace Cert.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8080000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1280x1536 .bf16) (harg1 : arg1.IsWhole) (arg2 : Memref sig .tc .vmem S512x1152 .i8) (harg2 : arg2.IsWhole) (arg3 : Memref sig .tc .vmem S512x48 .i8) (harg3 : arg3.IsWhole) (arg4 : Memref sig .tc .vmem S1280x512 .bf16) (harg4 : arg4.IsWhole) (arg5 : Memref sig .tc .vmem S1280x1152 .i8) (harg5 : arg5.IsWhole) (arg6 : Memref sig .tc .vmem S1280x48 .i8) (harg6 : arg6.IsWhole) (arg7 : Memref sig .tc .vmem S1280x1536 .bf16) (harg7 : arg7.IsWhole) (arg8 : Memref sig .tc .vmem S512x1536 .bf16) (harg8 : arg8.IsWhole) (hc0 : cond0_0 i)
    (x0 : Vec F S1280x1536 .bf16) (x1 : Vec F S512x1152 .i8) (x2 : Vec F S512x48 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K := by
    intro E K
    simp only [cc0_mxfp6_linear_eq_skeleton]; unfold cc0_mxfp6_linear_skel
    simp only [k0_part637_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part638_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part639_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part640_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part641_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part642_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part643_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part644_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part645_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Whole

end
-- ==== Proof.WholeRunB.lean ====
/- The whole kernel's body at every later step, likewise. -/
module

public import proofs.«01_k».proof.Proof.WholeRunA

@[expose] public section

-- membership in a rectangle of production extents (`View.cover_of_tiled`): the elaborator's structural look
-- recurses once per coordinate of the long axes
set_option maxRecDepth 16384

noncomputable section

namespace Cert.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8024000 in
/-- The body's triple IN CASE B (`scf.if` 0 not taken: points 1, 2, … 11: 11 of 12): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1280x1536 .bf16) (harg1 : arg1.IsWhole) (arg2 : Memref sig .tc .vmem S512x1152 .i8) (harg2 : arg2.IsWhole) (arg3 : Memref sig .tc .vmem S512x48 .i8) (harg3 : arg3.IsWhole) (arg4 : Memref sig .tc .vmem S1280x512 .bf16) (harg4 : arg4.IsWhole) (arg5 : Memref sig .tc .vmem S1280x1152 .i8) (harg5 : arg5.IsWhole) (arg6 : Memref sig .tc .vmem S1280x48 .i8) (harg6 : arg6.IsWhole) (arg7 : Memref sig .tc .vmem S1280x1536 .bf16) (harg7 : arg7.IsWhole) (arg8 : Memref sig .tc .vmem S512x1536 .bf16) (harg8 : arg8.IsWhole) (hc0 : ¬cond0_0 i)
    (x0 : Vec F S1280x1536 .bf16) (x1 : Vec F S512x1152 .i8) (x2 : Vec F S512x48 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mxfp6_linear i arg1 harg1 arg2 harg2 arg3 harg3 arg4 harg4 arg5 harg5 arg6 harg6 arg7 harg7 arg8 harg8) K := by
    intro E K
    simp only [cc0_mxfp6_linear_eq_skeleton]; unfold cc0_mxfp6_linear_skel
    simp only [k0_part637_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part638_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part639_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part640_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part641_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton, k0_part401_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part642_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton, k0_part458_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part643_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part504_eq_skeleton, k0_part505_eq_skeleton, k0_part506_eq_skeleton, k0_part507_eq_skeleton, k0_part508_eq_skeleton, k0_part509_eq_skeleton, k0_part510_eq_skeleton, k0_part511_eq_skeleton, k0_part512_eq_skeleton, k0_part513_eq_skeleton, k0_part514_eq_skeleton, k0_part515_eq_skeleton, k0_part516_eq_skeleton, k0_part517_eq_skeleton, k0_part518_eq_skeleton, k0_part519_eq_skeleton, k0_part520_eq_skeleton, k0_part521_eq_skeleton, k0_part522_eq_skeleton, k0_part523_eq_skeleton, k0_part524_eq_skeleton, k0_part525_eq_skeleton, k0_part526_eq_skeleton, k0_part527_eq_skeleton, k0_part528_eq_skeleton, k0_part529_eq_skeleton, k0_part530_eq_skeleton, k0_part531_eq_skeleton, k0_part532_eq_skeleton, k0_part644_eq_skeleton, k0_part533_eq_skeleton, k0_part534_eq_skeleton, k0_part535_eq_skeleton, k0_part536_eq_skeleton, k0_part537_eq_skeleton, k0_part538_eq_skeleton, k0_part539_eq_skeleton, k0_part540_eq_skeleton, k0_part541_eq_skeleton, k0_part542_eq_skeleton, k0_part543_eq_skeleton, k0_part544_eq_skeleton, k0_part545_eq_skeleton, k0_part546_eq_skeleton, k0_part547_eq_skeleton, k0_part548_eq_skeleton, k0_part549_eq_skeleton, k0_part550_eq_skeleton, k0_part551_eq_skeleton, k0_part552_eq_skeleton, k0_part553_eq_skeleton, k0_part554_eq_skeleton, k0_part555_eq_skeleton, k0_part556_eq_skeleton, k0_part557_eq_skeleton, k0_part558_eq_skeleton, k0_part559_eq_skeleton, k0_part560_eq_skeleton, k0_part561_eq_skeleton, k0_part562_eq_skeleton, k0_part563_eq_skeleton, k0_part564_eq_skeleton, k0_part565_eq_skeleton, k0_part566_eq_skeleton, k0_part567_eq_skeleton, k0_part568_eq_skeleton, k0_part569_eq_skeleton, k0_part570_eq_skeleton, k0_part571_eq_skeleton, k0_part572_eq_skeleton, k0_part573_eq_skeleton, k0_part574_eq_skeleton, k0_part575_eq_skeleton, k0_part576_eq_skeleton, k0_part577_eq_skeleton, k0_part578_eq_skeleton, k0_part579_eq_skeleton, k0_part580_eq_skeleton, k0_part581_eq_skeleton, k0_part582_eq_skeleton, k0_part583_eq_skeleton, k0_part584_eq_skeleton, k0_part585_eq_skeleton, k0_part586_eq_skeleton, k0_part587_eq_skeleton, k0_part588_eq_skeleton, k0_part589_eq_skeleton, k0_part590_eq_skeleton, k0_part591_eq_skeleton, k0_part592_eq_skeleton, k0_part645_eq_skeleton, k0_part593_eq_skeleton, k0_part594_eq_skeleton, k0_part595_eq_skeleton, k0_part596_eq_skeleton, k0_part597_eq_skeleton, k0_part598_eq_skeleton, k0_part599_eq_skeleton, k0_part600_eq_skeleton, k0_part601_eq_skeleton, k0_part602_eq_skeleton, k0_part603_eq_skeleton, k0_part604_eq_skeleton, k0_part605_eq_skeleton, k0_part606_eq_skeleton, k0_part607_eq_skeleton, k0_part608_eq_skeleton, k0_part609_eq_skeleton, k0_part610_eq_skeleton, k0_part611_eq_skeleton, k0_part612_eq_skeleton, k0_part613_eq_skeleton, k0_part614_eq_skeleton, k0_part615_eq_skeleton, k0_part616_eq_skeleton, k0_part617_eq_skeleton, k0_part618_eq_skeleton, k0_part619_eq_skeleton, k0_part620_eq_skeleton, k0_part621_eq_skeleton, k0_part622_eq_skeleton, k0_part623_eq_skeleton, k0_part624_eq_skeleton, k0_part625_eq_skeleton, k0_part626_eq_skeleton, k0_part627_eq_skeleton, k0_part628_eq_skeleton, k0_part629_eq_skeleton, k0_part630_eq_skeleton, k0_part631_eq_skeleton, k0_part632_eq_skeleton, k0_part633_eq_skeleton, k0_part634_eq_skeleton, k0_part635_eq_skeleton, k0_part636_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Whole

end
-- ==== Proof.WholeFrame.lean ====
/- The whole kernel's frame: it ends, its arguments are unchanged and its counters zero. Nothing is said of what its outputs
   hold (the pipeline's proof data leave them unnamed). -/
module

public import proofs.«01_k».proof.Proof.WholeRunB
public import Idealize.ShloMosaic.Lib.Claim

@[expose] public section

-- membership in a rectangle of production extents (`View.cover_of_tiled`): the elaborator's structural look
-- recurses once per coordinate of the long axes
set_option maxRecDepth 16384

noncomputable section

namespace Cert.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The same of input 1. -/
theorem after0_1 (c : Dev nD) (t : Fin cfg0.N) : (dats m 0 c).after 1 t = iblk m c 1 t := by dsimp only [dats]
/-- The same of input 2. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The same of input 1. -/
theorem before0_1 (c : Dev nD) (t : Fin cfg0.N) (d) : (dats m 0 c).before 1 t d = iblk m c 1 t :=
  before0_1_of m (dats m 0 c) (A_eq m c 1) (after0_1 m c) t d
/-- The same of input 2. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 12 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Whole

end
-- ==== Proof.lean ====
module

public import proofs.«01_k».proof.Defs
public import proofs.«01_k».proof.Proof.PlainValue
public import proofs.«01_k».proof.Proof.Gen.SliceIdeal.Value
public import proofs.«01_k».proof.Proof.Gen.ReferenceIdeal.Run
public import proofs.«01_k».proof.Proof.WholeFrame
public import proofs.«01_k».proof.Proof.Gen.Slice.Frame
public import proofs.«01_k».proof.Proof.Gen.SliceIdeal.Value
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, element by element: both are the sum over the channels of the products of two
    decoded rows. -/
theorem algebraic_SliceIdeal_ReferenceIdeal : algebraic_SliceIdeal_ReferenceIdeal := by
  intro m ρ m' ρ' _ hagree
  refine ⟨_, Cert.SliceIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3⟩ := hagree c
  refine (h c).1.trans ?_
  funext i
  rw [ValueIdx.eq_ix2 i]
  exact (Cert.Decode.reference_apply _ _ _ _ _ e0 e1 e2 e3 (i 0) (i 1)).trans (Cert.Decode.kernel_apply m c (i 0) (i 1)).symm

/-- Every claim of the statement. -/
theorem claim : Cert.Claim := ⟨Cert.Kernel.Gen.facts, Cert.Slice.Gen.facts, Cert.SliceIdeal.Gen.facts, Cert.ReferenceIdeal.Gen.facts,
  fun m ρ _ => Cert.Whole.frame m ρ, fun m ρ _ => Cert.Slice.Gen.frame m ρ, fun m ρ _ => Cert.SliceIdeal.Gen.frame m ρ, quiescent_ReferenceIdeal, (trivial : preserves_Slice_SliceIdeal), algebraic_SliceIdeal_ReferenceIdeal⟩

end Cert.Proof

end
